-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![2048, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x2048 : Shape := ⟨2, ![512, 2048]⟩
abbrev S4x4x128x1024 : Shape := ⟨4, ![4, 4, 128, 1024]⟩
abbrev S3x4 : Shape := ⟨2, ![3, 4]⟩
abbrev S_ : Shape := ⟨0, ![]⟩
abbrev S128x512 : Shape := ⟨2, ![128, 512]⟩
abbrev S512x1024 : Shape := ⟨2, ![512, 1024]⟩
abbrev S128x1024 : Shape := ⟨2, ![128, 1024]⟩
abbrev S1x1x128x1024 : Shape := ⟨4, ![1, 1, 128, 1024]⟩
abbrev S1x1 : Shape := ⟨2, ![1, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S512x2048, .f32⟩
  | .local _ .vmem, ⟨0, _⟩ => ⟨S2048x512, .f32⟩
  | .local _ .vmem, ⟨1, _⟩ => ⟨S512x2048, .f32⟩
  | .local _ .vmem, ⟨2, _⟩ => ⟨S512x2048, .f32⟩
  | .local _ .vmem, ⟨3, _⟩ => ⟨S4x4x128x1024, .f32⟩
  | .local _ .vmem, ⟨4, _⟩ => ⟨S4x4x128x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_15 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_10 : BitVec 32 := 1#32
  let v13 : BitVec 32 := Scalar.subi v2 c1_i32_10
  let c4_i32_11 : BitVec 32 := 4#32
  let v14 : BitVec 32 := Scalar.addi v13 c4_i32_11
  let c4_i32_12 : BitVec 32 := 4#32
  let v15 : BitVec 32 := Scalar.remsi v14 c4_i32_12
  let c512_i32 : BitVec 32 := 512#32
  let v18 : BitVec 32 := Scalar.muli v15 c512_i32
  let v19 : BitVec 32 := Scalar.addi v18 c0_i32_15
  let v20 : Index := Scalar.indexCast v19
  let c0 : Index := 0#32
  ![v20.toNat, 0]
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_30 : BitVec 32 := 1#32
  let v29 : BitVec 32 := Scalar.muli v7 c1_i32_30
  let v30 : BitVec 32 := Scalar.addi c0_i32_31 v29
  v30.toNat
def k0_off2 (d0 : Dev nD) (c0_i32_37 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c512_i32_36 : BitVec 32 := 512#32
  let v39 : BitVec 32 := Scalar.muli v17 c512_i32_36
  let v40 : BitVec 32 := Scalar.addi v39 c0_i32_37
  let v41 : Index := Scalar.indexCast v40
  let c0_38 : Index := 0#32
  ![v41.toNat, 0]
def k0_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_53 : BitVec 32 := 1#32
  let v50 : BitVec 32 := Scalar.muli v5 c1_i32_53
  let v51 : BitVec 32 := Scalar.addi c0_i32_54 v50
  v51.toNat
def k0_dev5 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_75 : BitVec 32 := 1#32
  let v71 : BitVec 32 := Scalar.muli v7 c1_i32_75
  let v72 : BitVec 32 := Scalar.addi c0_i32_76 v71
  v72.toNat
def k0_dev6 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_99 : BitVec 32 := 1#32
  let v92 : BitVec 32 := Scalar.muli v5 c1_i32_99
  let v93 : BitVec 32 := Scalar.addi c0_i32_100 v92
  v93.toNat
def k0_dev7 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_121 : BitVec 32 := 1#32
  let v113 : BitVec 32 := Scalar.muli v7 c1_i32_121
  let v114 : BitVec 32 := Scalar.addi c0_i32_122 v113
  v114.toNat
def k0_dev8 (d0 : Dev nD) : Nat :=
  let c0_i32_146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_145 : BitVec 32 := 1#32
  let v134 : BitVec 32 := Scalar.muli v5 c1_i32_145
  let v135 : BitVec 32 := Scalar.addi c0_i32_146 v134
  v135.toNat
def k0_dev9 (d0 : Dev nD) : Nat :=
  let c0_i32_167 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_166 : BitVec 32 := 1#32
  let v155 : BitVec 32 := Scalar.muli v7 c1_i32_166
  let v156 : BitVec 32 := Scalar.addi c0_i32_167 v155
  v156.toNat
def k0_dev10 (d0 : Dev nD) : Nat :=
  let c0_i32_191 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_190 : BitVec 32 := 1#32
  let v176 : BitVec 32 := Scalar.muli v5 c1_i32_190
  let v177 : BitVec 32 := Scalar.addi c0_i32_191 v176
  v177.toNat
def k0_off3 (d0 : Dev nD) (c0_i32_197 : BitVec 32) (c0_i32_203 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_196 : BitVec 32 := 2#32
  let v186 : BitVec 32 := Scalar.subi v2 c2_i32_196
  let v187 : BitVec 32 := Scalar.subi v186 c0_i32_197
  let c8_i32 : BitVec 32 := 8#32
  let v188 : BitVec 32 := Scalar.addi v187 c8_i32
  let c4_i32_198 : BitVec 32 := 4#32
  let v189 : BitVec 32 := Scalar.remsi v188 c4_i32_198
  let c512_i32_202 : BitVec 32 := 512#32
  let v193 : BitVec 32 := Scalar.muli v189 c512_i32_202
  let v194 : BitVec 32 := Scalar.addi v193 c0_i32_203
  let v195 : Index := Scalar.indexCast v194
  let c0_204 : Index := 0#32
  ![v195.toNat, 0]
def k0_off4 (d0 : Dev nD) (c0_i32_200 : BitVec 32) (c0_i32_227 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_199 : BitVec 32 := 2#32
  let v190 : BitVec 32 := Scalar.addi v2 c2_i32_199
  let v191 : BitVec 32 := Scalar.addi v190 c0_i32_200
  let c4_i32_201 : BitVec 32 := 4#32
  let v192 : BitVec 32 := Scalar.remsi v191 c4_i32_201
  let c512_i32_226 : BitVec 32 := 512#32
  let v225 : BitVec 32 := Scalar.muli v192 c512_i32_226
  let v226 : BitVec 32 := Scalar.addi v225 c0_i32_227
  let v227 : Index := Scalar.indexCast v226
  let c0_228 : Index := 0#32
  ![v227.toNat, 0]
def k0_dev11 (d0 : Dev nD) : Nat :=
  let c0_i32_281 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_280 : BitVec 32 := 1#32
  let v271 : BitVec 32 := Scalar.muli v7 c1_i32_280
  let v272 : BitVec 32 := Scalar.addi c0_i32_281 v271
  v272.toNat
def k0_dev12 (d0 : Dev nD) : Nat :=
  let c0_i32_317 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_316 : BitVec 32 := 1#32
  let v295 : BitVec 32 := Scalar.muli v5 c1_i32_316
  let v296 : BitVec 32 := Scalar.addi c0_i32_317 v295
  v296.toNat
def k0_dev13 (d0 : Dev nD) : Nat :=
  let c0_i32_353 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_352 : BitVec 32 := 1#32
  let v319 : BitVec 32 := Scalar.muli v7 c1_i32_352
  let v320 : BitVec 32 := Scalar.addi c0_i32_353 v319
  v320.toNat
def k0_dev14 (d0 : Dev nD) : Nat :=
  let c0_i32_389 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_388 : BitVec 32 := 1#32
  let v343 : BitVec 32 := Scalar.muli v5 c1_i32_388
  let v344 : BitVec 32 := Scalar.addi c0_i32_389 v343
  v344.toNat
def k0_dev15 (d0 : Dev nD) : Nat :=
  let c0_i32_425 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_424 : BitVec 32 := 1#32
  let v367 : BitVec 32 := Scalar.muli v7 c1_i32_424
  let v368 : BitVec 32 := Scalar.addi c0_i32_425 v367
  v368.toNat
def k0_dev16 (d0 : Dev nD) : Nat :=
  let c0_i32_461 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_460 : BitVec 32 := 1#32
  let v391 : BitVec 32 := Scalar.muli v5 c1_i32_460
  let v392 : BitVec 32 := Scalar.addi c0_i32_461 v391
  v392.toNat
def k0_dev17 (d0 : Dev nD) : Nat :=
  let c0_i32_497 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_496 : BitVec 32 := 1#32
  let v415 : BitVec 32 := Scalar.muli v7 c1_i32_496
  let v416 : BitVec 32 := Scalar.addi c0_i32_497 v415
  v416.toNat
def k0_dev18 (d0 : Dev nD) : Nat :=
  let c0_i32_533 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_532 : BitVec 32 := 1#32
  let v439 : BitVec 32 := Scalar.muli v5 c1_i32_532
  let v440 : BitVec 32 := Scalar.addi c0_i32_533 v439
  v440.toNat
def k0_dev19 (d0 : Dev nD) : Nat :=
  let c0_i32_624 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_623 : BitVec 32 := 1#32
  let v534 : BitVec 32 := Scalar.muli v7 c1_i32_623
  let v535 : BitVec 32 := Scalar.addi c0_i32_624 v534
  v535.toNat
def k0_dev20 (d0 : Dev nD) : Nat :=
  let c0_i32_660 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_659 : BitVec 32 := 1#32
  let v558 : BitVec 32 := Scalar.muli v5 c1_i32_659
  let v559 : BitVec 32 := Scalar.addi c0_i32_660 v558
  v559.toNat
def k0_dev21 (d0 : Dev nD) : Nat :=
  let c0_i32_696 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_695 : BitVec 32 := 1#32
  let v582 : BitVec 32 := Scalar.muli v7 c1_i32_695
  let v583 : BitVec 32 := Scalar.addi c0_i32_696 v582
  v583.toNat
def k0_dev22 (d0 : Dev nD) : Nat :=
  let c0_i32_732 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_731 : BitVec 32 := 1#32
  let v606 : BitVec 32 := Scalar.muli v5 c1_i32_731
  let v607 : BitVec 32 := Scalar.addi c0_i32_732 v606
  v607.toNat
def k0_dev23 (d0 : Dev nD) : Nat :=
  let c0_i32_768 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_767 : BitVec 32 := 1#32
  let v630 : BitVec 32 := Scalar.muli v7 c1_i32_767
  let v631 : BitVec 32 := Scalar.addi c0_i32_768 v630
  v631.toNat
def k0_dev24 (d0 : Dev nD) : Nat :=
  let c0_i32_804 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_803 : BitVec 32 := 1#32
  let v654 : BitVec 32 := Scalar.muli v5 c1_i32_803
  let v655 : BitVec 32 := Scalar.addi c0_i32_804 v654
  v655.toNat
def k0_dev25 (d0 : Dev nD) : Nat :=
  let c0_i32_840 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_839 : BitVec 32 := 1#32
  let v678 : BitVec 32 := Scalar.muli v7 c1_i32_839
  let v679 : BitVec 32 := Scalar.addi c0_i32_840 v678
  v679.toNat
def k0_dev26 (d0 : Dev nD) : Nat :=
  let c0_i32_876 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_875 : BitVec 32 := 1#32
  let v702 : BitVec 32 := Scalar.muli v5 c1_i32_875
  let v703 : BitVec 32 := Scalar.addi c0_i32_876 v702
  v703.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Ring.lean ====
/-
# The ring of four devices: its memrefs, semaphores and the program of one device

The kernel multiplies the column block of `x` a device holds with the row block of `w` it holds, and sums the
products over the devices with a reduce-scatter that runs in two directions at once. Direction `false` carries
the left half of the output's columns from each device to the next one (buffer `cc0_scratch0`); direction
`true` carries the right half to the device before (buffer `cc0_scratch1`). Each communication buffer has four
hops of four row blocks: slot `(k, r)` of direction `ch` holds the partial sum of row block `r` after `k` hops.

This module names these things as functions of the direction, the hop and the row block, and writes the
printed kernel body as a short program over those names (`body_eq`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions

@[expose] public section

noncomputable section

namespace Cert.RingProof

open Cert.KernelIdeal Cert.KernelIdeal.Gen
open Idealize.ShloMosaic
open Idealize.SL.Sem

variable {F : FTy → Type} [FloatOps F]

/-! ## The ring -/

set_option backward.proofsInPublic true in
/-- The next device on the ring. -/
def nxt (c : Dev nD) : Dev nD := ⟨(c.val + 1) % 4, Nat.mod_lt _ (by decide)⟩
set_option backward.proofsInPublic true in
/-- The device before on the ring. -/
def prv (c : Dev nD) : Dev nD := ⟨(c.val + 3) % 4, Nat.mod_lt _ (by decide)⟩

/-- The device that direction `ch` sends to. -/
def tgt (c : Dev nD) (ch : Bool) : Dev nD := cond ch (prv c) (nxt c)
/-- The device that direction `ch` receives from. -/
def src (c : Dev nD) (ch : Bool) : Dev nD := cond ch (nxt c) (prv c)

/-- What a device sends to arrives at a device whose source it is. -/
theorem tgt_src (c : Dev nD) (ch : Bool) : tgt (src c ch) ch = c := by revert c ch; decide
/-- And the other way round. -/
theorem src_tgt (c : Dev nD) (ch : Bool) : src (tgt c ch) ch = c := by revert c ch; decide
/-- The two directions send to different devices. -/
theorem tgt_ne (c : Dev nD) : tgt c true ≠ tgt c false := by revert c; decide
/-- The target of one direction is the source of the other. -/
theorem tgt_not (c : Dev nD) (ch : Bool) : tgt c (!ch) = src c ch := by revert c ch; decide

/-! ## Memrefs and semaphores -/

/-- The device's block of `x`, its block of `w` and its block of the output, as staged in VMEM. -/
abbrev xM : Memref sig .tc .vmem S2048x512 .f32 := Memref.whole cc0_stg0_0
abbrev wM : Memref sig .tc .vmem S512x2048 .f32 := Memref.whole cc0_stg1_0
abbrev oM : Memref sig .tc .vmem S512x2048 .f32 := Memref.whole cc0_stg2_0

/-- The communication buffer of a direction. -/
def comm : Bool → Memref sig .tc .vmem S4x4x128x1024 .f32
  | false => Memref.whole cc0_scratch0
  | true => Memref.whole cc0_scratch1

/-- The send and the receive semaphores of a direction. -/
def sendArr : Bool → DmaSems sig S3x4
  | false => cc0_scratch2
  | true => cc0_scratch4
def recvArr : Bool → DmaSems sig S3x4
  | false => cc0_scratch3
  | true => cc0_scratch5

/-- A slot lies inside its buffer. -/
theorem inb_slot (k r : Fin 4) :
    ∀ a, (![k.val, r.val, 0, 0] : Fin 4 → ℕ) a + S1x1x128x1024.size a ≤ S4x4x128x1024.size a := by
  revert k r; decide

/-- The rectangle of slot `(k, r)` of a communication buffer. -/
abbrev slotRect (k r : Fin 4) : Rect S4x4x128x1024 :=
  Rect.unit (s := S4x4x128x1024) ![k.val, r.val, 0, 0] S1x1x128x1024.size (inb_slot k r)

/-- Slot `(k, r)` of direction `ch`, as the transfers name it. -/
abbrev slot (ch : Bool) (k r : Fin 4) : Memref sig .tc .vmem S128x1024 .f32 :=
  ((comm ch).slice (slotRect k r) (fun _ => rfl)).squeeze S128x1024 squeezes_S1x1x128x1024_S128x1024

/-- A semaphore lies inside its array. -/
theorem inb_sem (h : Fin 3) (r : Fin 4) :
    ∀ a, (![h.val, r.val] : Fin 2 → ℕ) a + S1x1.size a ≤ S3x4.size a := by
  revert h r; decide

/-- The send and the receive semaphore of hop `h`, row block `r`, direction `ch`. -/
abbrev sendS (ch : Bool) (h : Fin 3) (r : Fin 4) : DmaSem sig :=
  (((sendArr ch).slice (Rect.unit (s := S3x4) ![h.val, r.val] S1x1.size (inb_sem h r))).squeeze S_ squeezes_S1x1_S_).sem
abbrev recvS (ch : Bool) (h : Fin 3) (r : Fin 4) : DmaSem sig :=
  (((recvArr ch).slice (Rect.unit (s := S3x4) ![h.val, r.val] S1x1.size (inb_sem h r))).squeeze S_ squeezes_S1x1_S_).sem

/-- The runtime's barrier semaphore, on which the entry handshake runs. -/
abbrev barS : Sem sig := (SemArray.scalar (sig.barrier 0 rfl) : Sems sig S_).sem

/-! ## Where the products read and where the results go -/

/-- The first column of a direction's half of `w` and of the output. -/
def half (ch : Bool) : ℕ := cond ch 1024 0

/-- The first row and column of the rows of `x` that device `d` multiplies for hop `k`, row block `r`. -/
def xoff (d : Dev nD) : Bool → Fin 4 → Fin 4 → (Fin 2 → ℕ)
  | false, 0, r => k0_off1 d (BitVec.ofNat 32 (128 * r.val))
  | true, 0, r => k0_off2 d (BitVec.ofNat 32 (128 * r.val))
  | false, ⟨k + 1, _⟩, r => k0_off3 d (BitVec.ofNat 32 k) (BitVec.ofNat 32 (128 * r.val))
  | true, ⟨k + 1, _⟩, r => k0_off4 d (BitVec.ofNat 32 k) (BitVec.ofNat 32 (128 * r.val))

/-- The row chunk of the output that device `d` adds to at hop `k` of direction `ch`. -/
def chunk (d : Dev nD) (ch : Bool) (k : Fin 4) : ℕ := cond ch ((d.val + 1 + k.val) % 4) ((d.val + 7 - k.val) % 4)

/-- The rows in closed form: row block `r` of the chunk. -/
theorem xoff_eq (d : Dev nD) (ch : Bool) (k r : Fin 4) : xoff d ch k r = ![512 * chunk d ch k + 128 * r.val, 0] := by
  rcases ch with _ | _ <;> rcases k with ⟨_ | k, hk⟩
  · refine (k0_off1_eq d r).trans ?_
    simp only [chunk, cond_false, Nat.sub_zero]
    congr 3; omega
  · refine (k0_off3_eq d ⟨k, by omega⟩ r).trans ?_
    simp only [chunk, cond_false]
    congr 3; omega
  · exact k0_off2_eq d r
  · refine (k0_off4_eq d ⟨k, by omega⟩ r).trans ?_
    simp only [chunk, cond_true]
    congr 3; omega

/-- Those rows lie inside `x`. -/
theorem inb_x (d : Dev nD) (ch : Bool) (k r : Fin 4) : ∀ a, xoff d ch k r a + S128x512.size a ≤ S2048x512.size a := by
  rcases ch with _ | _ <;> rcases k with ⟨_ | k, hk⟩
  · exact k0_off1_inb d r
  · exact k0_off3_inb d ⟨k, by omega⟩ r
  · exact k0_off2_inb d r
  · exact k0_off4_inb d ⟨k, by omega⟩ r

/-- A half lies inside `w`. -/
theorem inb_w (ch : Bool) : ∀ a, (![0, half ch] : Fin 2 → ℕ) a + S512x1024.size a ≤ S512x2048.size a := by
  revert ch; decide
/-- A tile lies inside the output block. -/
theorem inb_o (ch : Bool) (r : Fin 4) :
    ∀ a, (![128 * r.val, half ch] : Fin 2 → ℕ) a + S128x1024.size a ≤ S512x2048.size a := by
  revert ch r; decide

abbrev xRect (d : Dev nD) (ch : Bool) (k r : Fin 4) : Rect S2048x512 :=
  Rect.unit (s := S2048x512) (xoff d ch k r) S128x512.size (inb_x d ch k r)
abbrev wRect (ch : Bool) : Rect S512x2048 := Rect.unit (s := S512x2048) ![0, half ch] S512x1024.size (inb_w ch)
abbrev oRect (ch : Bool) (r : Fin 4) : Rect S512x2048 :=
  Rect.unit (s := S512x2048) ![128 * r.val, half ch] S128x1024.size (inb_o ch r)

/-! ## Pure operations -/

/-- The product of a row block of `x` and a half of `w`. -/
def prod (xs : Vec F S128x512 .f32) (ws : Vec F S512x1024 .f32) : FVec F S128x1024 .f32 :=
  matmul dot_S128x512_S512x1024_S128x1024_1_0_0_1_n_n none (shapeCast S128x512 xs shapeCasts_S128x512_S128x512)
    (shapeCast S512x1024 ws shapeCasts_S512x1024_S512x1024) (constant S128x1024 .f32 0x00000000#32)
/-- A tile in the shape of a slot, and a slot in the shape of a tile. -/
abbrev pack (v : FVec F S128x1024 .f32) : Vec F S1x1x128x1024 .f32 := shapeCast S1x1x128x1024 v shapeCasts_S128x1024_S1x1x128x1024
abbrev unpack (u : Vec F S1x1x128x1024 .f32) : FVec F S128x1024 .f32 := shapeCast S128x1024 u shapeCasts_S1x1x128x1024_S128x1024

/-! ## The program -/

/-- Programs of a device's TensorCore. -/
abbrev PR (F : FTy → Type) (α : Type) := Prog (TpuEff nD τ sig (Elt F) Λ₀ .tc) α

/-- Do `f` for each row block in turn. -/
def forR (f : Fin 4 → PR F PUnit) : PR F PUnit := do f 0; f 1; f 2; f 3
/-- Do `f` for each direction in turn. -/
def both (f : Bool → PR F PUnit) : PR F PUnit := do f false; f true
/-- Do `f` for each row block in turn, keeping the results. -/
def gather {α : Type} (f : Fin 4 → PR F α) : PR F (Fin 4 → α) := do
  let a ← f 0; let b ← f 1; let c ← f 2; let d ← f 3
  pure ![a, b, c, d]

/-- One product: read the rows, read the half of `w`, multiply. -/
def readProd (d : Dev nD) (ch : Bool) (k r : Fin 4) : PR F (FVec F S128x1024 .f32) := do
  let xs : Vec F S128x512 .f32 ← Prog.lift (.load xM (xRect d ch k r).toLoadRect (View.loadsAt_vmem h_S128x512))
  let ws : Vec F S512x1024 .f32 ← Prog.lift (.load wM (wRect ch).toLoadRect (View.loadsAt_vmem h_S512x1024))
  pure (prod xs ws)

/-- Read a slot. -/
def readSlot (ch : Bool) (k r : Fin 4) : PR F (Vec F S1x1x128x1024 .f32) :=
  Prog.lift (.load (comm ch) (slotRect k r).toLoadRect (View.loadsAt_vmem h_S1x1x128x1024))
/-- Fill a slot with a tile. -/
def writeSlot (ch : Bool) (k r : Fin 4) (v : FVec F S128x1024 .f32) : PR F PUnit :=
  Prog.lift (.store (comm ch) (slotRect k r) (pack v) Finset.univ
    (View.stores_vmem_bits_univ h_S1x1x128x1024 (by cases ch <;> rfl)) (.inl rfl))
/-- Write a tile of the output. -/
def writeOut (ch : Bool) (r : Fin 4) (v : FVec F S128x1024 .f32) : PR F PUnit := do
  let _ : Vec F S128x1024 .f32 ← Prog.lift (.load oM (oRect ch r).toLoadRect (View.loadsAt_vmem h_S128x1024))
  Prog.lift (.store oM (oRect ch r) v Finset.univ
    (View.stores_vmem_bits_univ h_S128x1024 rfl) (.inl rfl))

/-- The device that the transfers of a direction name. -/
def dst (d : Dev nD) : Bool → Dev nD
  | false => ⟨k0_dev3 d, k0_dev3_lt d⟩
  | true => ⟨k0_dev4 d, k0_dev4_lt d⟩

/-- It is the direction's target. -/
theorem dst_eq (d : Dev nD) (ch : Bool) : dst d ch = tgt d ch := by
  cases ch
  · exact Fin.ext (k0_dev3_eq d)
  · exact Fin.ext (k0_dev4_eq d)

/-- A slot is made of whole words. -/
theorem slot_words (ch : Bool) (k r : Fin 4) : (slot ch k r).view.WordExact := by
  cases ch <;> exact (View.wordExact_bits rfl).reshape _ _

/-- Start the transfer of hop `h`, row block `r`, to device `t`: slot `(h, r)` here to slot `(h + 1, r)` there. -/
def sendTo (t : Dev nD) (ch : Bool) (h : Fin 3) (r : Fin 4) : PR F PUnit :=
  Prog.lift (.enqueueDma (slot ch h.castSucc r) (.remote (Dev.tc t) (slot ch h.succ r) (.dma (sendS ch h r)))
    (.dma (recvS ch h r)) (slot_words _ _ _) (slot_words _ _ _) ⟨⟨rfl, Or.inl rfl⟩, trivial⟩)
/-- Start the transfer of hop `h`, row block `r`, to the direction's target. -/
def send (d : Dev nD) (ch : Bool) (h : Fin 3) (r : Fin 4) : PR F PUnit := sendTo (dst d ch) ch h r
theorem send_eq (d : Dev nD) (ch : Bool) (h : Fin 3) (r : Fin 4) : send (F := F) d ch h r = sendTo (tgt d ch) ch h r := by
  rw [send, dst_eq]
/-- Wait until the transfer of hop `h`, row block `r` into this device has arrived. -/
def waitRecv (ch : Bool) (h : Fin 3) (r : Fin 4) : PR F PUnit :=
  Prog.lift (.waitDma2 (recvS ch h r) (slot ch h.castSucc r) (slot ch h.succ r) (slot_words _ _ _) (slot_words _ _ _))
/-- Wait until the transfer of hop `h`, row block `r` out of this device has been sent. -/
def waitSend (ch : Bool) (h : Fin 3) (r : Fin 4) : PR F PUnit :=
  Prog.lift (.waitDma2 (sendS ch h r) (slot ch h.succ r) (slot ch h.castSucc r) (slot_words _ _ _) (slot_words _ _ _))

/-- Tell both neighbours that this device has entered, and wait until both have. -/
def handshake (d : Dev nD) : PR F PUnit := do
  semSignalWord (⟨k0_dev1 d, k0_dev1_lt d⟩ : Dev nD) barS 1#32
  semSignalWord (⟨k0_dev2 d, k0_dev2_lt d⟩ : Dev nD) barS 1#32
  semWaitWord barS 2#32

/-- The first hop of a lane: multiply, fill slot `0`, send it. -/
def initLane (d : Dev nD) (ch : Bool) (r : Fin 4) : PR F PUnit := do
  let v ← readProd d ch 0 r
  let _ ← readSlot ch 0 r
  writeSlot ch 0 r v
  send d ch 0 r

/-- The device's own products for hop `k`. -/
def products (d : Dev nD) (k : Fin 4) : PR F (Bool → Fin 4 → FVec F S128x1024 .f32) := do
  let a ← gather (fun r => readProd d false k r)
  let b ← gather (fun r => readProd d true k r)
  pure (fun ch => cond ch b a)

/-- A later hop of a lane: take what arrived, add the own product, send it on. -/
def midLane (d : Dev nD) (h : Fin 3) (h' : Fin 3) (t : Bool → Fin 4 → FVec F S128x1024 .f32) (ch : Bool) (r : Fin 4) :
    PR F PUnit := do
  waitRecv ch h r
  let u ← readSlot ch h.succ r
  let _ ← readSlot ch h.succ r
  writeSlot ch h.succ r (addf (unpack u) (t ch r))
  send d ch h' r

/-- The last hop of a lane: take what arrived, add the own product, write the output tile. -/
def lastLane (t : Bool → Fin 4 → FVec F S128x1024 .f32) (ch : Bool) (r : Fin 4) : PR F PUnit := do
  waitRecv ch 2 r
  let u ← readSlot ch 3 r
  writeOut ch r (addf (unpack u) (t ch r))

/-- One device's program. -/
def prog : PR F PUnit := do
  let d : Dev nD ← Prog.lift .deviceId
  handshake d
  forR fun r => both fun ch => initLane d ch r
  let t₁ ← products d 1
  forR fun r => both fun ch => midLane d 0 1 t₁ ch r
  let t₂ ← products d 2
  forR fun r => both fun ch => midLane d 1 2 t₂ ch r
  let t₃ ← products d 3
  forR fun r => both fun ch => lastLane t₃ ch r
  forR fun r => both fun ch => waitSend ch 0 r
  forR fun r => both fun ch => waitSend ch 1 r
  forR fun r => both fun ch => waitSend ch 2 r

/-- The printed kernel body is that program. -/
theorem body_eq :
    cc0_body (F := F) xM (Memref.isWhole_whole _) wM (Memref.isWhole_whole _) oM (Memref.isWhole_whole _)
      (Memref.whole cc0_scratch0) (Memref.isWhole_whole _) (Memref.whole cc0_scratch1) (Memref.isWhole_whole _)
      cc0_scratch2 cc0_scratch3 cc0_scratch4 cc0_scratch5 = prog := by
  chain_rfl

end Cert.RingProof

end
-- ==== Proof.Sched.lean ====
/-
# The protocol: cells, contents, the schedule of duties, levels and debts

Every device has one barrier cell, a send cell and a receive cell for each transfer `(ch, h, r)` — direction, hop,
row block. This module says what each slot holds after each hop (`part`), what a unit on each cell hands over
(`sched`), the levels that order the waits, and what a device owes from its `n`-th transfer on (`owed`).
-/
module

public import proofs.«01_k».proof.Proof.Ring
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Cells -/

/-- A transfer: direction, hop, row block. -/
abbrev X : Type := Bool × Fin 3 × Fin 4
/-- A cell of a device: the barrier, or the send (`false`) or receive (`true`) cell of a transfer. -/
abbrev Cell : Type := Option (Bool × X)

/-- The semaphores of the transfers. -/
def osem : Bool × X → SemLoc sig
  | (false, x) => .dma (sendS x.1 x.2.1 x.2.2)
  | (true, x) => .dma (recvS x.1 x.2.1 x.2.2)

/-- The semaphore of a cell. -/
def csem : Cell → SemLoc sig
  | none => .reg barS
  | some k => osem k

/-- The semaphores of the transfers are distinct. -/
theorem osem_injective : Function.Injective osem := by decide +kernel

/-- Distinct cells of a device are distinct semaphores. -/
theorem csem_injective : Function.Injective csem := by
  rintro (_ | ⟨b, x⟩) (_ | ⟨b', x'⟩) h
  · rfl
  · rcases b' with _ | _ <;> exact absurd (show (SemLoc.reg barS : SemLoc sig) = .dma _ from h) (fun h => by cases h)
  · rcases b with _ | _ <;> exact absurd (show (SemLoc.reg barS : SemLoc sig) = .dma _ from h.symm) (fun h => by cases h)
  · exact congrArg some (osem_injective h)

/-- The cell that a semaphore is, if it is one of the protocol's. -/
def cellFor (s : SemLoc sig) : Option Cell :=
  open Classical in if h : ∃ k, csem k = s then some h.choose else none

theorem cellFor_csem (k : Cell) : cellFor (csem k) = some k := by
  unfold cellFor
  have h : ∃ k', csem k' = csem k := ⟨k, rfl⟩
  rw [dif_pos h]; exact congrArg some (csem_injective h.choose_spec)

theorem cellFor_eq_some {s : SemLoc sig} {k : Cell} (h : cellFor s = some k) : s = csem k := by
  unfold cellFor at h
  split at h
  · next hk => cases h; exact hk.choose_spec.symm
  · cases h

/-- Cell `k` of device `c`. -/
abbrev cell (c : Dev nD) (k : Cell) : GSem nD τ sig := ((c : Thread nD τ), csem k)
abbrev barCell (c : Dev nD) : GSem nD τ sig := cell c none
abbrev sendCell (c : Dev nD) (x : X) : GSem nD τ sig := cell c (some (false, x))
abbrev recvCell (c : Dev nD) (x : X) : GSem nD τ sig := cell c (some (true, x))

/-- The credit of one tile's transfer. -/
abbrev N : ℕ := (slot false 0 0).view.dmaCredit
theorem N_pos : 0 < N := View.dmaCredit_pos _ (by decide)

/-! ## Contents -/

/-- The device's blocks of `x` and `w` as staged. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- Device `c`'s own product at hop `k` of lane `(ch, r)`. -/
def own (c : Dev nD) (ch : Bool) (k r : Fin 4) : FVec F S128x1024 .f32 :=
  prod (xM.view.readAt (Elt F) (xRect c ch k r).toLoadRect (xstg m ρ c)) (wM.view.readAt (Elt F) (wRect ch).toLoadRect (wstg m ρ c))

/-- The partial sum that device `c` holds after `k` hops of lane `(ch, r)`: what its source held a hop before, and
    its own product. -/
def part (ch : Bool) (r : Fin 4) : ℕ → Dev nD → FVec F S128x1024 .f32
  | 0, c => own m ρ c ch 0 r
  | k + 1, c => addf (part ch r k (src c ch)) (own m ρ c ch (Fin.ofNat 4 (k + 1)) r)

/-- What device `c` holds in slot `(k, r)` of direction `ch` before it adds its own product: its source's sum. -/
def inc (c : Dev nD) (ch : Bool) (h : Fin 3) (r : Fin 4) : FVec F S128x1024 .f32 := part m ρ ch r h.val (src c ch)

/-- The output block of device `c`: tile `(r, ch)` is the sum after three hops. -/
def outAt (c : Dev nD) : (cc0_stg2_0 : Ref sig .tc).ty.Contents (Elt F) := fun i =>
  part m ρ (decide (1024 ≤ (i 1).val)) (Fin.ofNat 4 ((i 0).val / 128)) 3 c
    (Shape.pair ⟨(i 0).val % 128, Nat.mod_lt _ (by decide)⟩ ⟨(i 1).val % 1024, Nat.mod_lt _ (by decide)⟩)

/-! ## Slots -/

/-- Device `c`'s slot at contents `f`. -/
def slotPts (c : Dev nD) (ch : Bool) (k r : Fin 4) (f : Buf (Elt F) ((slot ch k r).view.loc (c : Thread nD τ))) : sProp 𝕄 :=
  (slot ch k r).view.loc (c : Thread nD τ) ↦[(slot ch k r).view.set]{fullShare} f
/-- Device `c`'s slot holding the tile `v`. -/
def slotHas (c : Dev nD) (ch : Bool) (k r : Fin 4) (v : FVec F S128x1024 .f32) : sProp 𝕄 :=
  iprop(∃ f, ⌜(slot ch k r).view.read (Elt F) f = v⌝ ∗ slotPts c ch k r f)
/-- Device `c`'s slot at any contents. -/
def slotAny (c : Dev nD) (ch : Bool) (k r : Fin 4) : sProp 𝕄 := iprop(∃ f, slotPts c ch k r f)

omit [FloatOps F] in
instance slotPts_storable (c : Dev nD) (ch : Bool) (k r : Fin 4) (f) : BI.Storable (upEmb : UEmb _ 𝕄) (slotPts (F := F) c ch k r f) := by
  unfold slotPts; infer_instance
omit [FloatOps F] in
instance slotHas_storable (c : Dev nD) (ch : Bool) (k r : Fin 4) (v) : BI.Storable (upEmb : UEmb _ 𝕄) (slotHas (F := F) c ch k r v) := by
  unfold slotHas; infer_instance
omit [FloatOps F] in
instance slotAny_storable (c : Dev nD) (ch : Bool) (k r : Fin 4) : BI.Storable (upEmb : UEmb _ 𝕄) (slotAny (F := F) c ch k r) := by
  unfold slotAny; infer_instance

/-! ## The schedule -/

/-- What the handshake unit of direction `ch` hands device `d`: the landing slots of that direction on the device
    `d` sends to. -/
def barPay (d : Dev nD) (ch : Bool) : sProp 𝕄 :=
  bigSep Finset.univ fun y : Fin 3 × Fin 4 => slotAny (tgt d ch) ch y.1.succ y.2

/-- What a unit on a cell hands over: the handshake's slots, an arrived partial sum, or the sent slot back. -/
def pay (c : Dev nD) (d : Bool) : Option Cell → sProp 𝕄
  | some none => barPay c d
  | some (some (true, x)) => slotHas c x.1 x.2.1.succ x.2.2 (inc m ρ c x.1 x.2.1 x.2.2)
  | some (some (false, x)) => slotAny c x.1 x.2.1.castSucc x.2.2
  | none => iprop(emp)

/-- The duties of a cell's one round: a barrier cell one unit for each direction, a transfer's cell one tile. -/
def duty : Option Cell → Finset Bool
  | some none => Finset.univ
  | some (some _) => {false}
  | none => ∅

def amt : Option Cell → ℕ
  | some none => 1
  | _ => N

/-- The schedule. -/
def sched : Rounds.Schedule (GSem nD τ sig) Bool 𝕄 where
  duties g r := if r = 0 ∧ g.1.2 = .tc then duty (cellFor g.2) else ∅
  unitless _ := False
  amount g _ _ := amt (cellFor g.2)
  payload g _ d := pay m ρ g.1.1 d (cellFor g.2)
  amount_pos g _ _ _ := by
    rcases cellFor g.2 with _ | _ | _
    · exact N_pos
    · exact Nat.one_pos
    · exact N_pos

instance sched_payload_storable (g : GSem nD τ sig) (r : ℕ) (d : Bool) :
    BI.Storable (upEmb : UEmb _ 𝕄) ((sched (F := F) m ρ).payload g r d) := by
  show BI.Storable upEmb (pay m ρ g.1.1 d (cellFor g.2))
  rcases cellFor g.2 with _ | _ | ⟨_ | _, x⟩ <;> unfold pay <;> try unfold barPay
  all_goals infer_instance

theorem duties_cell (c : Dev nD) (k : Cell) : (sched (F := F) m ρ).duties (cell c k) 0 = duty (some k) := by
  dsimp only [sched]; rw [if_pos ⟨rfl, rfl⟩, cellFor_csem]
theorem duties_later (g : GSem nD τ sig) : ∀ r, 1 ≤ r → (sched (F := F) m ρ).duties g r = ∅ :=
  fun r hr => by dsimp only [sched]; rw [if_neg fun h => by omega]
theorem amount_cell (c : Dev nD) (k : Cell) (d : Bool) : (sched (F := F) m ρ).amount (cell c k) 0 d = amt (some k) := by
  dsimp only [sched]; rw [cellFor_csem]
theorem payload_cell (c : Dev nD) (k : Cell) (d : Bool) : (sched (F := F) m ρ).payload (cell c k) 0 d = pay m ρ c d (some k) := by
  dsimp only [sched]; rw [cellFor_csem]

theorem expect_bar (c : Dev nD) : (sched (F := F) m ρ).expect (barCell c) 0 = 2 := by
  unfold Schedule.expect Schedule.amountOf
  rw [duties_cell, Finset.sum_congr rfl fun d _ => amount_cell m ρ c none d]; rfl
theorem expect_xfer (c : Dev nD) (k : Bool × X) : (sched (F := F) m ρ).expect (cell c (some k)) 0 = N := by
  unfold Schedule.expect Schedule.amountOf
  rw [duties_cell, Finset.sum_congr rfl fun d _ => amount_cell m ρ c (some k) d, duty, Finset.sum_singleton]; rfl

/-- All of a barrier cell's round: the handshake's payloads of both directions. -/
theorem rest_bar (c : Dev nD) :
    bigSep ((sched (F := F) m ρ).duties (barCell c) 0 \ ∅) (fun d => (sched (F := F) m ρ).payload (barCell c) 0 d)
      = bigSep Finset.univ (fun d => barPay c d) := by
  rw [Finset.sdiff_empty, duties_cell]
  exact congrArg (bigSep _) (funext fun d => payload_cell m ρ c none d)
/-- All of a transfer cell's round: its one payload. -/
theorem rest_xfer (c : Dev nD) (k : Bool × X) :
    bigSep ((sched (F := F) m ρ).duties (cell c (some k)) 0 \ ∅) (fun d => (sched (F := F) m ρ).payload (cell c (some k)) 0 d)
      = pay m ρ c false (some (some k)) := by
  rw [Finset.sdiff_empty, duties_cell, duty, bigSep_singleton, payload_cell]

/-! ## Debts and levels -/

/-- The place of a transfer in a device's order of sends. -/
def num (x : X) : ℕ := 8 * x.2.1.val + (2 * x.2.2.val + x.1.toNat)

theorem num_injective : Function.Injective num := by decide +kernel
theorem num_lt (x : X) : num x < 24 := by revert x; decide +kernel
theorem num_div (x : X) : num x / 8 = x.2.1.val := by revert x; decide +kernel

/-- What a device owes from its `n`-th transfer on: a tile's credit to the receive cell of each. -/
def owed (c : Dev nD) (n : ℕ) : CellTallies nD τ sig Unit :=
  ∑ x ∈ Finset.univ.filter (fun x : X => n ≤ num x), tallyAt (recvCell (tgt c x.1) x) () N

/-- A transfer pays the first of the debts. -/
theorem owed_num (c : Dev nD) (x : X) :
    owed c (num x) = owed c (num x + 1) + tallyAt (recvCell (tgt c x.1) x) () N := by
  have h : Finset.univ.filter (fun y : X => num x ≤ num y) = insert x (Finset.univ.filter fun y : X => num x + 1 ≤ num y) := by
    ext y
    simp only [Finset.mem_filter, Finset.mem_univ, true_and, Finset.mem_insert]
    constructor
    · intro hy
      rcases Nat.lt_or_eq_of_le hy with h | h
      · exact .inr h
      · exact .inl (num_injective h.symm)
    · rintro (rfl | h)
      · exact le_refl _
      · omega
  rw [owed, h, Finset.sum_insert (by simp), add_comm]; rfl

/-- After the last transfer nothing is owed. -/
theorem owed_end (c : Dev nD) : owed c 24 = 0 := by
  unfold owed
  rw [Finset.filter_false_of_mem fun x _ => by have := num_lt x; omega, Finset.sum_empty]

/-- What a device owes when one of its two handshake units is still to be paid, and when both are. -/
def O₁ (c : Dev nD) : CellTallies nD τ sig Unit := owed c 0 + tallyAt (barCell (src c true)) () 1
def O₀ (c : Dev nD) : CellTallies nD τ sig Unit := O₁ c + tallyAt (barCell (src c false)) () 1

/-- Every cell of a TensorCore has the one index. -/
def L (g : GSem nD τ sig) : Finset Unit := if g.1.2 = .tc then {()} else ∅
/-- Barrier cells are at level 1, receive cells of hop `h` at `2 + h`, everything else at 0. -/
def lvl : Option Cell → ℕ
  | some none => 1
  | some (some (true, x)) => 2 + x.2.1.val
  | _ => 0
def lv (g : GSem nD τ sig) (_ : Unit) : ℕ := lvl (cellFor g.2)

theorem L_of_ne (g : GSem nD τ sig) (h : g.1.2 ≠ .tc) : L g = ∅ := if_neg h
theorem L_tc (c : Dev nD) (sm : SemLoc sig) : L ((c : Thread nD τ), sm) = {()} := if_pos rfl

/-- What is owed from the `n`-th transfer on is owed to receive cells of those transfers. -/
theorem owed_pos {c : Dev nD} {n : ℕ} {g : GSem nD τ sig} {u : Unit} (h : 0 < owed c n g u) :
    ∃ x : X, n ≤ num x ∧ g = recvCell (tgt c x.1) x := by
  unfold owed at h
  rw [Finset.sum_apply, Finsupp.finset_sum_apply] at h
  obtain ⟨x, hx, hne⟩ := Finset.exists_ne_zero_of_sum_ne_zero h.ne'
  rw [tallyAt_apply] at hne
  refine ⟨x, (Finset.mem_filter.mp hx).2, ?_⟩
  by_contra hg
  rw [if_neg fun h' => hg h'.1] at hne
  exact hne rfl

/-- What is owed at the start is owed to barrier cells and receive cells. -/
theorem O₀_pos {c : Dev nD} {g : GSem nD τ sig} {u : Unit} (h : 0 < O₀ c g u) :
    (∃ d, g = barCell d) ∨ ∃ d x, g = recvCell d x := by
  unfold O₀ O₁ at h
  rw [Pi.add_apply, Finsupp.add_apply, Pi.add_apply, Finsupp.add_apply, tallyAt_apply, tallyAt_apply] at h
  by_contra hn
  rw [not_or] at hn
  rw [if_neg (fun h' => hn.1 ⟨src c true, h'.1⟩), if_neg (fun h' => hn.1 ⟨src c false, h'.1⟩), add_zero, add_zero] at h
  obtain ⟨x, -, hx⟩ := owed_pos (c := c) (n := 0) (g := g) (u := u) h
  exact hn.2 ⟨tgt c x.1, x, hx⟩

omit [FloatOps F] in
/-- A device may wait on a cell of a level below those of the transfers it still owes. -/
theorem mayWait (c : Dev nD) (k : Cell) (n : ℕ) (hk : ∀ x : X, n ≤ num x → lvl (some k) < 2 + x.2.1.val) :
    (levAts L lv : sProp 𝕄) ⊢ MayWait (c : Thread nD τ) (csem k) () (owed c n) :=
  MayOwe.of_cut (L := L) (lev := lv) (lvl (some k))
    (fun p hp => by rw [Finset.mem_singleton.mp hp, L_tc]; exact Finset.mem_singleton_self _)
    (fun g u hg => by obtain ⟨x, -, rfl⟩ := owed_pos hg; exact Finset.mem_singleton_self _)
    (fun p hp => by rw [Finset.mem_singleton.mp hp]; dsimp only [lv]; rw [cellFor_csem])
    (fun g u hg => by obtain ⟨x, hx, rfl⟩ := owed_pos hg; dsimp only [lv]; rw [cellFor_csem]; exact hk x hx)

omit [FloatOps F] in
/-- A device may wait on a semaphore outside the protocol at the start, and once it owes nothing. -/
theorem mayWait_stage (c : Dev nD) (s : SemLoc sig) (hs : ∀ k, csem k ≠ s) (O : CellTallies nD τ sig Unit) (hO : O = O₀ c ∨ O = 0) :
    (levAts L lv : sProp 𝕄) ⊢ MayWait (c : Thread nD τ) s () O := by
  rcases hO with rfl | rfl
  · have h0 : cellFor s = none := by
      cases h : cellFor s with
      | none => rfl
      | some k => exact absurd (cellFor_eq_some h).symm (hs k)
    refine MayOwe.of_cut (L := L) (lev := lv) 0 (fun p hp => by rw [Finset.mem_singleton.mp hp, L_tc]; exact Finset.mem_singleton_self _)
      (fun g u hg => by rcases O₀_pos hg with ⟨d, rfl⟩ | ⟨d, x, rfl⟩ <;> exact Finset.mem_singleton_self _)
      (fun p hp => by rw [Finset.mem_singleton.mp hp]; dsimp only [lv]; rw [h0]; exact le_refl 0)
      (fun g u hg => by
        rcases O₀_pos hg with ⟨d, rfl⟩ | ⟨d, x, rfl⟩ <;> dsimp only [lv] <;> rw [cellFor_csem] <;> dsimp only [lvl] <;> omega)
  · rw [MayWait_zero]; iintro -; iempintro

end Cert.RingProof

end
-- ==== Proof.Steps.lean ====
/-
# The steps of one lane

One rule for each thing a device does: read operands and multiply, read or fill a slot, start a transfer, wait for one
to arrive, wait for one to have been sent. Each is stated once, for every direction, hop and row block.
-/
module

public import proofs.«01_k».proof.Proof.Sched
public import Idealize.ShloMosaic.Lib.Pipeline.Value

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program on device `c`. -/
abbrev WP (c : Dev nD) {α : Type} (p : PR F α) (Φ : α → sProp 𝕄) : sProp 𝕄 :=
  wp frame (wpE (defs₀ (F := F)) 𝒱₀ (c : Thread nD τ) none) Set.univ p Φ

/-! ## What is held -/

variable (K : Dev nD × Cell → ℕ)

/-- Every cell's invariant and that its round 0 is reached, and the levels. -/
def ctx : sProp 𝕄 :=
  iprop(bigSep Finset.univ (fun p : Dev nD × Cell => iprop(cellInv ER (sched m ρ) (K p) (cell p.1 p.2) ∗ reached ER (cell p.1 p.2) 0))
    ∗ levAts L lv)

instance ctx_persistent : BI.Persistent (ctx m ρ K) := by unfold ctx; infer_instance

theorem ctx_cell (c : Dev nD) (k : Cell) :
    ctx m ρ K ⊢ iprop(cellInv ER (sched m ρ) (K (c, k)) (cell c k) ∗ reached ER (cell c k) 0) := by
  unfold ctx
  refine sep_elim_left.trans ?_
  exact bigSep_elim (Finset.mem_univ (c, k))

/-- What the device still owes before its `n`-th transfer. -/
def Owe (c : Dev nD) (n : ℕ) : sProp 𝕄 := iprop(∃ W, owes (c : Thread nD τ) (owed c n) W)

/-- The staged operands. -/
def Stg (c : Dev nD) : sProp 𝕄 :=
  iprop((((c : Thread nD τ).loc cc0_stg0_0) ↦{fullShare} xstg m ρ c) ∗ (((c : Thread nD τ).loc cc0_stg1_0) ↦{fullShare} wstg m ρ c))

/-- A transfer not yet started: both its duties, the landing slot, the positions, and the credit for what arrives. -/
def ready (c : Dev nD) (x : X) : sProp 𝕄 :=
  iprop(dutyTok ER (sendCell c x) 0 false ∗ dutyTok ER (recvCell (tgt c x.1) x) 0 false
    ∗ atPos ER (sendCell c x) 0 ∅ 0 ∗ atPos ER (recvCell c x) 0 ∅ 0 ∗ cred (tallyAt (recvCell c x) () N)
    ∗ slotAny (tgt c x.1) x.1 x.2.1.succ x.2.2)
/-- A transfer started. -/
def sent (c : Dev nD) (x : X) : sProp 𝕄 :=
  iprop(atPos ER (sendCell c x) 0 ∅ 0 ∗ atPos ER (recvCell c x) 0 ∅ 0 ∗ cred (tallyAt (recvCell c x) () N)
    ∗ cred (tallyAt (sendCell c x) () N))
/-- The one into this device has arrived. -/
def rcvd (c : Dev nD) (x : X) : sProp 𝕄 :=
  iprop(atPos ER (sendCell c x) 0 ∅ 0 ∗ atPos ER (recvCell c x) (0 + 1) ∅ 0 ∗ cred (tallyAt (sendCell c x) () N))
/-- The one out of this device has left, and its slot is back. -/
def drained (c : Dev nD) (x : X) : sProp 𝕄 :=
  iprop(atPos ER (sendCell c x) (0 + 1) ∅ 0 ∗ atPos ER (recvCell c x) (0 + 1) ∅ 0 ∗ slotAny c x.1 x.2.1.castSucc x.2.2)

/-! ## Reading, multiplying, filling -/

/-- One product. -/
theorem wp_readProd (c : Dev nD) (ch : Bool) (k r : Fin 4) (Φ : FVec F S128x1024 .f32 → sProp 𝕄) :
    Stg m ρ c ⊢ iprop((Stg m ρ c -∗ Φ (own m ρ c ch k r)) -∗ WP c (readProd c ch k r) Φ) := by
  unfold readProd Stg own
  simp only [Prog.lift, Prog.bind_op, Prog.bind_ret, Prog.pure_eq_ret]
  iintro ⟨Hx, Hw⟩ HΦ
  iapply (wp_load 𝒱₀ (c : Thread nD τ) none Set.univ (m := xM) (S := Finset.univ) (Finset.subset_univ _)) $$ Hx
  iintro Hx
  iapply (wp_load 𝒱₀ (c : Thread nD τ) none Set.univ (m := wM) (S := Finset.univ) (Finset.subset_univ _)) $$ Hw
  iintro Hw
  rw [wp_ret]
  imodintro
  iapply HΦ
  isplitl [Hx]
  · iexact Hx
  · iexact Hw

/-- Reading a slot. -/
theorem wp_readSlot (c : Dev nD) (ch : Bool) (k r : Fin 4) (f : Buf (Elt F) ((slot ch k r).view.loc (c : Thread nD τ)))
    (Φ : Vec F S1x1x128x1024 .f32 → sProp 𝕄) :
    slotPts c ch k r f
      ⊢ iprop((slotPts c ch k r f -∗ Φ (((comm ch).access (slotRect k r)).read (Elt F) f)) -∗ WP c (readSlot ch k r) Φ) := by
  unfold readSlot slotPts
  simp only [Prog.lift]
  iintro Hs HΦ
  iapply (wp_load_rect 𝒱₀ (c : Thread nD τ) none Set.univ (m := comm ch) (r := slotRect k r) (S := (slot ch k r).view.set)
    (subset_of_eq (View.set_reshape _ _).symm)) $$ Hs
  iintro Hs
  rw [wp_ret]
  imodintro
  iapply HΦ
  iexact Hs

/-- A slot read whose value is thrown away. -/
theorem wp_readSlot_any (c : Dev nD) (ch : Bool) (k r : Fin 4) (Φ : Vec F S1x1x128x1024 .f32 → sProp 𝕄) :
    slotAny c ch k r ⊢ iprop((∀ u, slotAny c ch k r -∗ Φ u) -∗ WP c (readSlot ch k r) Φ) := by
  unfold slotAny
  iintro ⟨%f, Hs⟩ HΦ
  iapply (wp_readSlot c ch k r f) $$ Hs
  iintro Hs
  iapply HΦ
  iexists f
  iexact Hs

/-- A slot read that finds the tile the slot holds. -/
theorem wp_readSlot_has (c : Dev nD) (ch : Bool) (k r : Fin 4) (v : FVec F S128x1024 .f32) (Φ : Vec F S1x1x128x1024 .f32 → sProp 𝕄) :
    slotHas c ch k r v ⊢ iprop((∀ u, ⌜unpack u = v⌝ -∗ slotAny c ch k r -∗ Φ u) -∗ WP c (readSlot ch k r) Φ) := by
  unfold slotHas slotAny
  iintro ⟨%f, %hf, Hs⟩ HΦ
  iapply (wp_readSlot c ch k r f) $$ Hs
  iintro Hs
  iapply HΦ $$ [] [Hs]
  · ipureintro; exact hf
  · iexists f
    iexact Hs

/-- Filling a slot. -/
theorem wp_writeSlot (c : Dev nD) (ch : Bool) (k r : Fin 4) (v : FVec F S128x1024 .f32) (Φ : PUnit → sProp 𝕄) :
    slotAny c ch k r ⊢ iprop((slotHas c ch k r v -∗ Φ ⟨⟩) -∗ WP c (writeSlot ch k r v) Φ) := by
  unfold writeSlot slotAny slotHas slotPts
  simp only [Prog.lift]
  iintro ⟨%f, Hs⟩ HΦ
  iapply (wp_store 𝒱₀ (c : Thread nD τ) none Set.univ (m := comm ch) (r := slotRect k r) (S := (slot ch k r).view.set)
    (subset_of_eq (View.set_reshape _ _).symm)) $$ Hs
  iintro Hs
  rw [wp_ret]
  imodintro
  iapply HΦ
  iexists (((comm ch).access (slotRect k r)).write (Elt F) f (pack v) Finset.univ)
  isplitr
  · ipureintro
    show unpack (((comm ch).access (slotRect k r)).read (Elt F) (((comm ch).access (slotRect k r)).write (Elt F) f (pack v) Finset.univ)) = v
    rw [View.read_write_univ]
    exact shapeCast_shapeCast v _ _
  · iexact Hs

/-! ## Transfers -/

/-- Every slot has a tile's credit. -/
theorem slot_credit (ch : Bool) (k r : Fin 4) : (slot ch k r).view.dmaCredit = N := by cases ch <;> rfl

/-- What arrives from a device is that device's own partial sum. -/
theorem inc_tgt (c : Dev nD) (ch : Bool) (h : Fin 3) (r : Fin 4) : inc m ρ (tgt c ch) ch h r = part m ρ ch r h.val c := by
  unfold inc; rw [src_tgt]

/-- A transfer's cell has the one duty. -/
theorem false_mem_duties (c : Dev nD) (k : Bool × X) : false ∈ (sched (F := F) m ρ).duties (cell c (some k)) 0 := by
  rw [duties_cell]; exact Finset.mem_singleton_self _

/-- A sent slot pays the sender's cell. -/
theorem pays_send (c : Dev nD) (x : X) (f : Buf (Elt F) ((slot x.1 x.2.1.castSucc x.2.2).view.loc (c : Thread nD τ))) :
    slotPts c x.1 x.2.1.castSucc x.2.2 f ⊢ (sched m ρ).payload (sendCell c x) 0 false := by
  rw [payload_cell]
  unfold pay slotAny
  iintro H; iexists f; iexact H

/-- A landed slot pays the receiver's cell. -/
theorem pays_recv (c : Dev nD) (x : X) (f : Buf (Elt F) ((slot x.1 x.2.1.castSucc x.2.2).view.loc (c : Thread nD τ)))
    (g : Buf (Elt F) ((slot x.1 x.2.1.succ x.2.2).view.loc (tgt c x.1 : Thread nD τ)))
    (hf : (slot x.1 x.2.1.castSucc x.2.2).view.read (Elt F) f = part m ρ x.1 x.2.2 x.2.1.val c) :
    slotPts (tgt c x.1) x.1 x.2.1.succ x.2.2
        ((slot x.1 x.2.1.succ x.2.2).view.write (Elt F) g ((slot x.1 x.2.1.castSucc x.2.2).view.read (Elt F) f) Finset.univ)
      ⊢ (sched m ρ).payload (recvCell (tgt c x.1) x) 0 false := by
  rw [payload_cell, hf, show pay m ρ (tgt c x.1) false (some (some (true, x)))
    = slotHas (tgt c x.1) x.1 x.2.1.succ x.2.2 (inc m ρ (tgt c x.1) x.1 x.2.1 x.2.2) from rfl, inc_tgt]
  unfold slotHas
  iintro H
  iexists ((slot x.1 x.2.1.succ x.2.2).view.write (Elt F) g (part m ρ x.1 x.2.2 x.2.1.val c) Finset.univ)
  isplitr
  · ipureintro; exact View.read_write_univ _ _
  · iexact H

/-- Starting a transfer. -/
theorem wp_sendLane (c : Dev nD) (ch : Bool) (h : Fin 3) (r : Fin 4) (Φ : PUnit → sProp 𝕄) :
    iprop(ctx m ρ K ∗ slotHas c ch h.castSucc r (part m ρ ch r h.val c) ∗ ready c (ch, h, r) ∗ Owe c (num (ch, h, r)))
      ⊢ iprop((sent c (ch, h, r) ∗ Owe c (num (ch, h, r) + 1) -∗ Φ ⟨⟩) -∗ WP c (send c ch h r) Φ) := by
  rw [send_eq]
  unfold sendTo slotHas ready sent Owe
  simp only [Prog.lift]
  unfold slotAny
  rw [owed_num]
  iintro ⟨#Hctx, ⟨%f, %hf, Hs⟩, ⟨HtS, HtR, HaS, HaR, HcR, ⟨%g, Hd⟩⟩, ⟨%W, HO⟩⟩ HΦ
  ihave #⟨HIs, Hrs⟩ := (ctx_cell m ρ K c (some (false, (ch, h, r)))) $$ Hctx
  ihave #⟨HIr, Hrr⟩ := (ctx_cell m ρ K (tgt c ch) (some (true, (ch, h, r)))) $$ Hctx
  have hA := Rounds.wp_send_pointsTo (defs := defs₀ (F := F)) 𝒱₀ ER (sched m ρ) (c : Thread nD τ) none (sS := .dma (sendS ch h r)) (sem := .dma (recvS ch h r))
    (src := slot ch h.castSucc r) (dst := slot ch h.succ r) (c' := (tgt c ch : Thread nD τ)) (hsc := rfl) (hsrc := slot_words _ _ _)
    (hdst := slot_words _ _ _) (hsem := ⟨⟨rfl, Or.inl rfl⟩, trivial⟩) (k := .ret) (Q := Φ) (Γ := .empty)
    (κ₁ := K (c, some (false, (ch, h, r)))) (κ₂ := K (tgt c ch, some (true, (ch, h, r))))
    (r₁ := 0) (r₂ := 0) (d₁ := false) (d₂ := false) (q := fullShare) (fs := f) (fd := g)
    (false_mem_duties m ρ c (false, (ch, h, r))) (false_mem_duties m ρ (tgt c ch) (true, (ch, h, r)))
    () () N (slot_credit ch h.succ r) (amount_cell m ρ c (some (false, (ch, h, r))) false) (amount_cell m ρ (tgt c ch) (some (true, (ch, h, r))) false)
    (owed c (num (ch, h, r) + 1)) rfl (W := W) (pays_send m ρ c (ch, h, r) f) (pays_recv m ρ c (ch, h, r) f g hf) (Es := Set.univ)
  iapply hA $$ [Hs Hd HO HtS HtR]
  · isplitr; · iexact HIs
    isplitr; · iexact HIr
    isplitl [Hs]; · unfold slotPts; iexact Hs
    isplitl [Hd]; · unfold slotPts; iexact Hd
    isplitl [HO]; · iexact HO
    isplitl [HtS]; · iexact HtS
    isplitr; · iexact Hrs
    isplitl [HtR]; · iexact HtR
    iexact Hrr
  iintro ⟨HcS, HO⟩
  rw [wp_ret]
  imodintro
  iapply HΦ
  isplitr [HO]
  · isplitl [HaS]; · iexact HaS
    isplitl [HaR]; · iexact HaR
    isplitl [HcR]; · iexact HcR
    iexact HcS
  · iexists W
    iexact HO

/-- Waiting on a transfer's cell, at any point where what is still owed is at higher levels. -/
theorem wp_waitCell (c : Dev nD) (b : Bool) (x : X) (n : ℕ) (hn : ∀ y : X, n ≤ num y → lvl (some (some (b, x))) < 2 + y.2.1.val)
    {s : DmaSem sig} (hs : SemLoc.dma s = csem (some (b, x))) {ch : Bool} {k k' r : Fin 4} (Φ : PUnit → sProp 𝕄) :
    iprop(ctx m ρ K ∗ cred (tallyAt (cell c (some (b, x))) () N) ∗ Owe c n ∗ atPos ER (cell c (some (b, x))) 0 ∅ 0)
      ⊢ iprop((Owe c n ∗ atPos ER (cell c (some (b, x))) (0 + 1) ∅ 0 ∗ pay m ρ c false (some (some (b, x))) -∗ Φ ⟨⟩)
        -∗ WP c (Prog.lift (.waitDma2 s (slot ch k r) (slot ch k' r) (slot_words _ _ _) (slot_words _ _ _))) Φ) := by
  unfold Owe
  simp only [Prog.lift]
  iintro ⟨#Hctx, Hc, ⟨%W, HO⟩, Ha⟩ HΦ
  ihave #⟨HI, -⟩ := (ctx_cell m ρ K c (some (b, x))) $$ Hctx
  unfold ctx
  icases Hctx with ⟨-, #Hlev⟩
  iapply (Rounds.wp_wait_rest_token 𝒱₀ ER (sched m ρ) (c : Thread nD τ) none (sm := csem (some (b, x))) (κ := K (c, some (b, x)))
    (fun Kt => (wpE_waitDma2_eq 𝒱₀ (c : Thread nD τ) none Set.univ Kt).trans (by rw [hs, slot_credit])) (Set.mem_univ _) () (O := owed c n) (W := W) (R := 0) (m := 0) (T := ∅)
    (by rw [Nat.zero_add]; exact (expect_xfer m ρ c (b, x)).symm)) $$ [Hc HO Ha]
  · isplitr; · iexact HI
    isplitl [Hc]; · iexact Hc
    isplitl [HO]; · iexact HO
    isplitr; · iapply (mayWait c (some (b, x)) n hn); iexact Hlev
    iexact Ha
  iintro ⟨HO, Ha, -, Hpay⟩
  ihave Hp := (Entails.of_eq (rest_xfer m ρ c (b, x))) $$ Hpay
  rw [wp_ret]
  imodintro
  iapply HΦ
  isplitl [HO]
  · iexists _; iexact HO
  isplitl [Ha]; · iexact Ha
  iexact Hp

/-- Waiting for a transfer to arrive, the transfers of its hop all sent. -/
theorem wp_recvLane (c : Dev nD) (ch : Bool) (h : Fin 3) (r : Fin 4) (n : ℕ) (hn : 8 * (h.val + 1) ≤ n) (Φ : PUnit → sProp 𝕄) :
    iprop(ctx m ρ K ∗ sent c (ch, h, r) ∗ Owe c n)
      ⊢ iprop((rcvd c (ch, h, r) ∗ slotHas c ch h.succ r (inc m ρ c ch h r) ∗ Owe c n -∗ Φ ⟨⟩) -∗ WP c (waitRecv ch h r) Φ) := by
  unfold sent rcvd waitRecv
  iintro ⟨#Hctx, ⟨HaS, HaR, HcR, HcS⟩, HO⟩ HΦ
  iapply (wp_waitCell m ρ K c true (ch, h, r) n (fun y hy => by have := num_div y; dsimp only [lvl]; omega) rfl) $$ [HcR HO HaR]
  · isplitr; · iexact Hctx
    isplitl [HcR]; · iexact HcR
    isplitl [HO]; · iexact HO
    iexact HaR
  iintro ⟨HO, HaR, Hp⟩
  iapply HΦ
  isplitl [HaS HaR HcS]
  · isplitl [HaS]; · iexact HaS
    isplitl [HaR]; · iexact HaR
    iexact HcS
  isplitl [Hp]; · unfold pay; iexact Hp
  iexact HO

/-- Waiting for a transfer to have left, all transfers sent. -/
theorem wp_drainLane (c : Dev nD) (ch : Bool) (h : Fin 3) (r : Fin 4) (Φ : PUnit → sProp 𝕄) :
    iprop(ctx m ρ K ∗ rcvd c (ch, h, r) ∗ Owe c 24)
      ⊢ iprop((drained c (ch, h, r) ∗ Owe c 24 -∗ Φ ⟨⟩) -∗ WP c (waitSend ch h r) Φ) := by
  unfold rcvd drained waitSend
  iintro ⟨#Hctx, ⟨HaS, HaR, HcS⟩, HO⟩ HΦ
  iapply (wp_waitCell m ρ K c false (ch, h, r) 24 (fun y hy => by dsimp only [lvl]; omega) rfl) $$ [HcS HO HaS]
  · isplitr; · iexact Hctx
    isplitl [HcS]; · iexact HcS
    isplitl [HO]; · iexact HO
    iexact HaS
  iintro ⟨HO, HaS, Hp⟩
  iapply HΦ
  isplitr [HO]
  · isplitl [HaS]; · iexact HaS
    isplitl [HaR]; · iexact HaR
    unfold pay; iexact Hp
  iexact HO

end Cert.RingProof

end
-- ==== Proof.Lanes.lean ====
/-
# From one lane to all eight, and from slots to whole buffers

The program does the same thing for each row block and direction in turn. `wp_lanes` runs such a sweep from a rule for one
lane. Below it are the lanes of each phase, each proved for every lane at once, the output tile a last lane writes, and
the cut of a communication buffer into its sixteen slots.
-/
module

public import proofs.«01_k».proof.Proof.Steps
public import Idealize.ShloMosaic.Lib.Ring
public import Idealize.ShloMosaic.Lib.Pipeline.ValueKit.Geometry

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cell → ℕ)

/-! ## Sweeps -/

/-- Something for every lane: each row block, each direction. -/
def lanes (P : Bool → Fin 4 → sProp 𝕄) : sProp 𝕄 :=
  bigSep Finset.univ fun r : Fin 4 => bigSep Finset.univ fun ch : Bool => P ch r

omit [FloatOps F] in
theorem bigSep_bool (P : Bool → sProp 𝕄) : bigSep Finset.univ P = iprop(P false ∗ P true) := by
  rw [bigSep_univ_eq_bigSepL [false, true] (by decide) (by decide), bigSepL_cons_cons, bigSepL_singleton]
  rfl
omit [FloatOps F] in
theorem bigSep_rows (P : Fin 4 → sProp 𝕄) : bigSep Finset.univ P = iprop(P 0 ∗ P 1 ∗ P 2 ∗ P 3) := by
  rw [bigSep_univ_eq_bigSepL [0, 1, 2, 3] (by decide) (by decide), bigSepL_cons_cons, bigSepL_cons_cons, bigSepL_cons_cons, bigSepL_singleton]
  rfl
omit [FloatOps F] in
theorem bigSep_hops (P : Fin 3 → sProp 𝕄) : bigSep Finset.univ P = iprop(P 0 ∗ P 1 ∗ P 2) := by
  rw [bigSep_univ_eq_bigSepL [0, 1, 2] (by decide) (by decide), bigSepL_cons_cons, bigSepL_cons_cons, bigSepL_singleton]
  rfl

omit [FloatOps F] in
/-- Something for every transfer is something for every lane of each hop. -/
theorem bigSep_xfers (P : X → sProp 𝕄) :
    bigSep Finset.univ P = bigSep Finset.univ fun h : Fin 3 => lanes fun ch r => P (ch, h, r) := by
  rw [bigSep_univ_prod]
  simp only [bigSep_univ_prod]
  rw [bigSep_univ_comm]
  refine congrArg (bigSep Finset.univ) (funext fun h => ?_)
  exact bigSep_univ_comm _

/-- The two directions in turn, each passing the shared resource `Sh` one step on. -/
theorem wp_both (c : Dev nD) (f : Bool → PR F PUnit) (A B : Bool → sProp 𝕄) (Sh : ℕ → sProp 𝕄) (n : ℕ)
    (step : ∀ (ch : Bool) (Φ : PUnit → sProp 𝕄), iprop(A ch ∗ Sh (n + ch.toNat))
      ⊢ iprop((B ch ∗ Sh (n + ch.toNat + 1) -∗ Φ ⟨⟩) -∗ WP c (f ch) Φ)) (Φ : PUnit → sProp 𝕄) :
    iprop(bigSep Finset.univ A ∗ Sh n) ⊢ iprop((bigSep Finset.univ B ∗ Sh (n + 2) -∗ Φ ⟨⟩) -∗ WP c (both f) Φ) := by
  have s0 : ∀ Φ, iprop(A false ∗ Sh n) ⊢ iprop((B false ∗ Sh (n + 1) -∗ Φ ⟨⟩) -∗ WP c (f false) Φ) := step false
  have s1 : ∀ Φ, iprop(A true ∗ Sh (n + 1)) ⊢ iprop((B true ∗ Sh (n + 2) -∗ Φ ⟨⟩) -∗ WP c (f true) Φ) := step true
  unfold both
  rw [bigSep_bool, bigSep_bool]
  simp only [wp_bind]
  iintro ⟨⟨H0, H1⟩, HS⟩ HΦ
  iapply (s0 _) $$ [H0 HS]
  · isplitl [H0]; · iexact H0
    iexact HS
  iintro ⟨G0, HS⟩
  iapply (s1 _) $$ [H1 HS]
  · isplitl [H1]; · iexact H1
    iexact HS
  iintro ⟨G1, HS⟩
  iapply HΦ
  isplitr [HS]
  · isplitl [G0]; · iexact G0
    iexact G1
  · iexact HS

/-- The four row blocks in turn, each passing the shared resource two steps on. -/
theorem wp_forR (c : Dev nD) (f : Fin 4 → PR F PUnit) (A B : Fin 4 → sProp 𝕄) (Sh : ℕ → sProp 𝕄)
    (step : ∀ (r : Fin 4) (Φ : PUnit → sProp 𝕄), iprop(A r ∗ Sh (2 * r.val)) ⊢ iprop((B r ∗ Sh (2 * r.val + 2) -∗ Φ ⟨⟩) -∗ WP c (f r) Φ))
    (Φ : PUnit → sProp 𝕄) :
    iprop(bigSep Finset.univ A ∗ Sh 0) ⊢ iprop((bigSep Finset.univ B ∗ Sh 8 -∗ Φ ⟨⟩) -∗ WP c (forR f) Φ) := by
  unfold forR
  rw [bigSep_rows, bigSep_rows]
  simp only [wp_bind]
  iintro ⟨⟨H0, H1, H2, H3⟩, HS⟩ HΦ
  iapply (step 0 _) $$ [H0 HS]
  · isplitl [H0]; · iexact H0
    iexact HS
  iintro ⟨G0, HS⟩
  iapply (step 1 _) $$ [H1 HS]
  · isplitl [H1]; · iexact H1
    iexact HS
  iintro ⟨G1, HS⟩
  iapply (step 2 _) $$ [H2 HS]
  · isplitl [H2]; · iexact H2
    iexact HS
  iintro ⟨G2, HS⟩
  iapply (step 3 _) $$ [H3 HS]
  · isplitl [H3]; · iexact H3
    iexact HS
  iintro ⟨G3, HS⟩
  iapply HΦ
  isplitr [HS]
  · isplitl [G0]; · iexact G0
    isplitl [G1]; · iexact G1
    isplitl [G2]; · iexact G2
    iexact G3
  · iexact HS

/-- A sweep over all lanes from a rule for one. -/
theorem wp_lanes (c : Dev nD) (f : Bool → Fin 4 → PR F PUnit) (A B : Bool → Fin 4 → sProp 𝕄) (Sh : ℕ → sProp 𝕄)
    (step : ∀ (ch : Bool) (r : Fin 4) (Φ : PUnit → sProp 𝕄), iprop(A ch r ∗ Sh (2 * r.val + ch.toNat))
      ⊢ iprop((B ch r ∗ Sh (2 * r.val + ch.toNat + 1) -∗ Φ ⟨⟩) -∗ WP c (f ch r) Φ)) (Φ : PUnit → sProp 𝕄) :
    iprop(lanes A ∗ Sh 0) ⊢ iprop((lanes B ∗ Sh 8 -∗ Φ ⟨⟩) -∗ WP c (forR fun r => both fun ch => f ch r) Φ) :=
  wp_forR c _ _ _ Sh (fun r Φ => wp_both c _ _ _ Sh (2 * r.val) (fun ch Φ => step ch r Φ) Φ) Φ

/-- The results of a sweep that only reads. -/
theorem wp_gather (c : Dev nD) {α : Type} (f : Fin 4 → PR F α) (v : Fin 4 → α) (P : sProp 𝕄)
    (step : ∀ (r : Fin 4) (Φ : α → sProp 𝕄), P ⊢ iprop((P -∗ Φ (v r)) -∗ WP c (f r) Φ)) (Φ : (Fin 4 → α) → sProp 𝕄) :
    P ⊢ iprop((P -∗ Φ v) -∗ WP c (gather f) Φ) := by
  unfold gather
  simp only [wp_bind, Prog.pure_eq_ret, wp_ret]
  iintro H HΦ
  iapply (step 0 _) $$ H
  iintro H
  iapply (step 1 _) $$ H
  iintro H
  iapply (step 2 _) $$ H
  iintro H
  iapply (step 3 _) $$ H
  iintro H
  imodintro
  rw [show (![v 0, v 1, v 2, v 3] : Fin 4 → α) = v from funext fun r => by fin_cases r <;> rfl]
  iapply HΦ
  iexact H

/-- All eight products of a hop. -/
theorem wp_products (c : Dev nD) (k : Fin 4) (Φ : (Bool → Fin 4 → FVec F S128x1024 .f32) → sProp 𝕄) :
    Stg m ρ c ⊢ iprop((Stg m ρ c -∗ Φ (fun ch r => own m ρ c ch k r)) -∗ WP c (products c k) Φ) := by
  unfold products
  simp only [wp_bind, Prog.pure_eq_ret, wp_ret]
  iintro H HΦ
  iapply (wp_gather c _ (fun r => own m ρ c false k r) (Stg m ρ c) (fun r Φ => wp_readProd m ρ c false k r Φ)) $$ H
  iintro H
  iapply (wp_gather c _ (fun r => own m ρ c true k r) (Stg m ρ c) (fun r Φ => wp_readProd m ρ c true k r Φ)) $$ H
  iintro H
  imodintro
  rw [show (fun ch => cond ch (fun r => own m ρ c true k r) (fun r => own m ρ c false k r))
    = (fun ch r => own m ρ c ch k r) from funext fun ch => by cases ch <;> rfl]
  iapply HΦ
  iexact H

/-! ## The lanes of each phase -/

/-- The first phase: multiply, fill slot `0`, send. -/
theorem wp_initLane (c : Dev nD) (ch : Bool) (r : Fin 4) (Φ : PUnit → sProp 𝕄) :
    iprop((slotAny c ch 0 r ∗ ready c (ch, 0, r)) ∗ (ctx m ρ K ∗ Stg m ρ c ∗ Owe c (num (ch, 0, r))))
      ⊢ iprop((sent c (ch, 0, r) ∗ (ctx m ρ K ∗ Stg m ρ c ∗ Owe c (num (ch, 0, r) + 1)) -∗ Φ ⟨⟩) -∗ WP c (initLane c ch r) Φ) := by
  unfold initLane
  simp only [wp_bind]
  iintro ⟨⟨Hs, Hr⟩, #Hctx, Hstg, HO⟩ HΦ
  iapply (wp_readProd m ρ c ch 0 r) $$ Hstg
  iintro Hstg
  iapply (wp_readSlot_any c ch 0 r) $$ Hs
  iintro %u Hs
  iapply (wp_writeSlot c ch 0 r) $$ Hs
  iintro Hs
  iapply (wp_sendLane m ρ K c ch 0 r) $$ [Hs Hr HO]
  · isplitr; · iexact Hctx
    isplitl [Hs]; · iexact Hs
    isplitl [Hr]; · iexact Hr
    iexact HO
  iintro ⟨Hsent, HO⟩
  iapply HΦ
  isplitl [Hsent]; · iexact Hsent
  isplitr; · iexact Hctx
  isplitl [Hstg]; · iexact Hstg
  iexact HO

/-- A middle phase: take what arrived, add the own product, send on. -/
theorem wp_midLane (c : Dev nD) (h h' : Fin 3) (hh : h'.castSucc = h.succ) (ch : Bool) (r : Fin 4) (Φ : PUnit → sProp 𝕄) :
    iprop((sent c (ch, h, r) ∗ ready c (ch, h', r)) ∗ (ctx m ρ K ∗ Owe c (num (ch, h', r))))
      ⊢ iprop(((rcvd c (ch, h, r) ∗ sent c (ch, h', r)) ∗ (ctx m ρ K ∗ Owe c (num (ch, h', r) + 1)) -∗ Φ ⟨⟩)
        -∗ WP c (midLane c h h' (fun ch r => own m ρ c ch h.succ r) ch r) Φ) := by
  have hv : h'.val = h.val + 1 := congrArg Fin.val hh
  unfold midLane
  simp only [wp_bind]
  iintro ⟨⟨Hsent, Hr⟩, #Hctx, HO⟩ HΦ
  iapply (wp_recvLane m ρ K c ch h r (num (ch, h', r)) (by unfold num; dsimp only; omega)) $$ [Hsent HO]
  · isplitr; · iexact Hctx
    isplitl [Hsent]; · iexact Hsent
    iexact HO
  iintro ⟨Hrcvd, Hs, HO⟩
  iapply (wp_readSlot_has c ch h.succ r) $$ Hs
  iintro %u %hu Hs
  iapply (wp_readSlot_any c ch h.succ r) $$ Hs
  iintro %u' Hs
  iapply (wp_writeSlot c ch h.succ r) $$ Hs
  rw [hu, show addf (inc m ρ c ch h r) (own m ρ c ch h.succ r) = part m ρ ch r h'.val c by
    rw [hv, part, inc, show (Fin.ofNat 4 (h.val + 1)) = h.succ from Fin.ext (Nat.mod_eq_of_lt (by have := h.isLt; omega))], ← hh]
  iintro Hs
  iapply (wp_sendLane m ρ K c ch h' r) $$ [Hs Hr HO]
  · isplitr; · iexact Hctx
    isplitl [Hs]; · iexact Hs
    isplitl [Hr]; · iexact Hr
    iexact HO
  iintro ⟨Hsent, HO⟩
  iapply HΦ
  isplitl [Hrcvd Hsent]
  · isplitl [Hrcvd]; · iexact Hrcvd
    iexact Hsent
  isplitr; · iexact Hctx
  iexact HO

/-- The place of an output element's tile in the order of the tiles. -/
def tileNum (i : S512x2048.Idx) : ℕ := 2 * ((i 0).val / 128) + (i 1).val / 1024

/-- The output block with its first `n` tiles written. -/
def OutUpTo (c : Dev nD) (n : ℕ) : sProp 𝕄 :=
  iprop(∃ f : Buf (Elt F) ((c : Thread nD τ).loc cc0_stg2_0), ⌜∀ i : S512x2048.Idx, tileNum i < n → f i = outAt m ρ c i⌝
    ∗ (((c : Thread nD τ).loc cc0_stg2_0) ↦{fullShare} f))

/-- The element of the output block under an element of a tile. -/
theorem oEmb_row (ch : Bool) (r : Fin 4) (x : S128x1024.Idx) :
    (((oM.access (oRect ch r)).emb x : S512x2048.Idx) 0).val = 128 * r.val + (x 0).val := by
  show 128 * r.val + 1 * (x 0).val = _
  rw [Nat.one_mul]
theorem oEmb_col (ch : Bool) (r : Fin 4) (x : S128x1024.Idx) :
    (((oM.access (oRect ch r)).emb x : S512x2048.Idx) 1).val = half ch + (x 1).val := by
  show half ch + 1 * (x 1).val = _
  rw [Nat.one_mul]

/-- A tile written on top of the earlier ones is the output block up to that tile. -/
theorem write_tile (c : Dev nD) (ch : Bool) (r : Fin 4) (f : Buf (Elt F) ((c : Thread nD τ).loc cc0_stg2_0))
    (hf : ∀ i : S512x2048.Idx, tileNum i < 2 * r.val + ch.toNat → f i = outAt m ρ c i) (i : S512x2048.Idx)
    (hi : tileNum i < 2 * r.val + ch.toNat + 1) :
    (oM.access (oRect ch r)).write (Elt F) f (part m ρ ch r 3 c) Finset.univ i = outAt m ρ c i := by
  have h1 : (i 1).val < 2048 := (i 1).isLt
  have h0 : (i 0).val < 512 := (i 0).isLt
  by_cases he : tileNum i = 2 * r.val + ch.toNat
  · have hb : ch.toNat < 2 := by cases ch <;> decide
    have hr : (i 0).val / 128 = r.val := by unfold tileNum at he; omega
    have hc : (i 1).val / 1024 = ch.toNat := by unfold tileNum at he; omega
    have hh : half ch = 1024 * ch.toNat := by cases ch <;> rfl
    let x : S128x1024.Idx := Shape.pair ⟨(i 0).val % 128, Nat.mod_lt _ (by decide)⟩ ⟨(i 1).val % 1024, Nat.mod_lt _ (by decide)⟩
    have hx : ((oM.access (oRect ch r)).emb x : S512x2048.Idx) = i := by
      funext a
      refine Fin.ext ?_
      have ha : ∀ a : Fin 2, a = 0 ∨ a = 1 := by decide
      rcases ha a with rfl | rfl
      · rw [oEmb_row]; show 128 * r.val + (i 0).val % 128 = _; omega
      · rw [oEmb_col, hh]; show 1024 * ch.toNat + (i 1).val % 1024 = _; omega
    have hd : decide (1024 ≤ (i 1).val) = ch := by
      cases ch
      · have : (i 1).val / 1024 = 0 := hc
        exact decide_eq_false (by omega)
      · have : (i 1).val / 1024 = 1 := hc
        exact decide_eq_true (by omega)
    have hw : (oM.access (oRect ch r)).write (Elt F) f (part m ρ ch r 3 c) Finset.univ i = part m ρ ch r 3 c x := by
      rw [← hx]; exact View.write_emb_of_mem _ _ (Finset.mem_univ x)
    rw [hw]
    show _ = part m ρ (decide (1024 ≤ (i 1).val)) (Fin.ofNat 4 ((i 0).val / 128)) 3 c x
    rw [hd, hr, show Fin.ofNat 4 r.val = r from Fin.ext (Nat.mod_eq_of_lt r.isLt)]
  · have hn : i ∉ (oM.access (oRect ch r)).setOn Finset.univ := by
      intro hm
      obtain ⟨x, -, hx⟩ := Finset.mem_map.mp hm
      apply he
      have e0 := oEmb_row ch r x
      have e1 := oEmb_col ch r x
      have hh : half ch = 1024 * ch.toNat := by cases ch <;> rfl
      have x0 : (x 0).val < 128 := (x 0).isLt
      have x1 : (x 1).val < 1024 := (x 1).isLt
      rw [hx] at e0 e1
      unfold tileNum
      omega
    rw [View.write_of_not_mem _ _ _ hn]
    exact hf i (by omega)

/-- Writing an output tile. -/
theorem wp_writeOut (c : Dev nD) (ch : Bool) (r : Fin 4) (Φ : PUnit → sProp 𝕄) :
    OutUpTo m ρ c (2 * r.val + ch.toNat)
      ⊢ iprop((OutUpTo m ρ c (2 * r.val + ch.toNat + 1) -∗ Φ ⟨⟩) -∗ WP c (writeOut ch r (part m ρ ch r 3 c)) Φ) := by
  unfold writeOut OutUpTo
  simp only [Prog.lift, Prog.bind_op, Prog.bind_ret]
  iintro ⟨%f, %hf, Ho⟩ HΦ
  iapply (wp_load 𝒱₀ (c : Thread nD τ) none Set.univ (m := oM) (S := Finset.univ) (Finset.subset_univ _)) $$ Ho
  iintro Ho
  iapply (wp_store 𝒱₀ (c : Thread nD τ) none Set.univ (m := oM) (r := oRect ch r) (S := Finset.univ) (Finset.subset_univ _)) $$ Ho
  iintro Ho
  rw [wp_ret]
  imodintro
  iapply HΦ
  iexists ((oM.access (oRect ch r)).write (Elt F) f (part m ρ ch r 3 c) Finset.univ)
  isplitr
  · ipureintro; exact write_tile m ρ c ch r f hf
  · iexact Ho

/-- The last phase: take what arrived, add the own product, write the output tile. -/
theorem wp_lastLane (c : Dev nD) (ch : Bool) (r : Fin 4) (Φ : PUnit → sProp 𝕄) :
    iprop(sent c (ch, 2, r) ∗ (ctx m ρ K ∗ Owe c 24 ∗ OutUpTo m ρ c (2 * r.val + ch.toNat)))
      ⊢ iprop(((rcvd c (ch, 2, r) ∗ slotAny c ch 3 r) ∗ (ctx m ρ K ∗ Owe c 24 ∗ OutUpTo m ρ c (2 * r.val + ch.toNat + 1)) -∗ Φ ⟨⟩)
        -∗ WP c (lastLane (fun ch r => own m ρ c ch 3 r) ch r) Φ) := by
  have hR : ∀ Φ, iprop(ctx m ρ K ∗ sent c (ch, 2, r) ∗ Owe c 24)
      ⊢ iprop((rcvd c (ch, 2, r) ∗ slotHas c ch 3 r (inc m ρ c ch 2 r) ∗ Owe c 24 -∗ Φ ⟨⟩) -∗ WP c (waitRecv ch 2 r) Φ) :=
    wp_recvLane m ρ K c ch 2 r 24 (by decide)
  unfold lastLane
  simp only [wp_bind]
  iintro ⟨Hsent, #Hctx, HO, Hout⟩ HΦ
  iapply (hR _) $$ [Hsent HO]
  · isplitr; · iexact Hctx
    isplitl [Hsent]; · iexact Hsent
    iexact HO
  iintro ⟨Hrcvd, Hs, HO⟩
  iapply (wp_readSlot_has c ch 3 r) $$ Hs
  iintro %u %hu Hs
  rw [hu, show addf (inc m ρ c ch 2 r) (own m ρ c ch 3 r) = part m ρ ch r 3 c from rfl]
  iapply (wp_writeOut m ρ c ch r) $$ Hout
  iintro Hout
  iapply HΦ
  isplitl [Hrcvd Hs]
  · isplitl [Hrcvd]; · iexact Hrcvd
    iexact Hs
  isplitr; · iexact Hctx
  isplitl [HO]; · iexact HO
  iexact Hout

/-! ## A communication buffer is its sixteen slots -/

/-- The elements of a slot are those whose first two coordinates are the slot's. -/
theorem mem_slotRect (k r : Fin 4) (i : S4x4x128x1024.Idx) :
    i ∈ (slotRect k r).set ↔ (i 0).val = k.val ∧ (i 1).val = r.val := by
  refine Rect.mem_set_unit.trans ⟨fun h => ?_, fun h a => ?_⟩
  · have h0 : k.val ≤ (i 0).val ∧ (i 0).val < k.val + 1 := h 0
    have h1 : r.val ≤ (i 1).val ∧ (i 1).val < r.val + 1 := h 1
    omega
  · have ha : a = 0 ∨ a = 1 ∨ a = 2 ∨ a = 3 := by revert a; decide
    rcases ha with rfl | rfl | rfl | rfl
    · show k.val ≤ (i 0).val ∧ (i 0).val < k.val + 1; omega
    · show r.val ≤ (i 1).val ∧ (i 1).val < r.val + 1; omega
    · exact ⟨Nat.zero_le _, by have : (i 2).val < 128 := (i 2).isLt; show (i 2).val < 0 + 128; omega⟩
    · exact ⟨Nat.zero_le _, by have : (i 3).val < 1024 := (i 3).isLt; show (i 3).val < 0 + 1024; omega⟩

/-- The element set of a slot, in its buffer. -/
def slotSet (c : Dev nD) (ch : Bool) (b : Fin 4 × Fin 4) : Finset (Idx ((comm ch).view.loc (c : Thread nD τ))) := (slot ch b.1 b.2).view.set

/-- Element sets given by the first two coordinates cut the buffer. -/
theorem cut_by_coords (S : Fin 4 × Fin 4 → Finset S4x4x128x1024.Idx)
    (hS : ∀ b i, Iff (i ∈ S b) ((i 0).val = b.1.val ∧ (i 1).val = b.2.val)) :
    (∀ b b', b ≠ b' → Disjoint (S b) (S b')) ∧ Finset.univ.biUnion S = Finset.univ := by
  refine ⟨fun b b' h => Finset.disjoint_left.mpr fun i hi hi' => h ?_, Finset.eq_univ_iff_forall.mpr fun i =>
    Finset.mem_biUnion.mpr ⟨((i 0 : Fin 4), (i 1 : Fin 4)), Finset.mem_univ _, (hS _ i).mpr ⟨rfl, rfl⟩⟩⟩
  have e := (hS b i).mp hi
  have e' := (hS b' i).mp hi'
  exact Prod.ext (Fin.ext (e.1.symm.trans e'.1)) (Fin.ext (e.2.symm.trans e'.2))

/-- Distinct slots share no element, and every element is in one. -/
theorem slotSet_cut (c : Dev nD) (ch : Bool) :
    (∀ b b', b ≠ b' → Disjoint (slotSet c ch b) (slotSet c ch b')) ∧ Finset.univ.biUnion (slotSet c ch) = Finset.univ := by
  cases ch
  · exact cut_by_coords (slotSet c false) fun b i => by
      unfold slotSet
      rw [show (slot false b.1 b.2).view.set = ((View.whole cc0_scratch0).slice (slotRect b.1 b.2)).set from View.set_reshape _ _]
      exact ValueKit.mem_set_slice_whole_iff cc0_scratch0 (slotRect b.1 b.2) i (mem_slotRect b.1 b.2 i)
  · exact cut_by_coords (slotSet c true) fun b i => by
      unfold slotSet
      rw [show (slot true b.1 b.2).view.set = ((View.whole cc0_scratch1).slice (slotRect b.1 b.2)).set from View.set_reshape _ _]
      exact ValueKit.mem_set_slice_whole_iff cc0_scratch1 (slotRect b.1 b.2) i (mem_slotRect b.1 b.2 i)

/-- A communication buffer at any contents. -/
def commAny (c : Dev nD) (ch : Bool) : sProp 𝕄 :=
  iprop(∃ f : Buf (Elt F) ((comm ch).view.loc (c : Thread nD τ)), ((comm ch).view.loc (c : Thread nD τ)) ↦{fullShare} f)

omit [FloatOps F] in
/-- It is its sixteen slots at any contents. -/
theorem comm_split (c : Dev nD) (ch : Bool) :
    commAny (F := F) c ch ⊢ bigSep Finset.univ fun b : Fin 4 × Fin 4 => slotAny c ch b.1 b.2 := by
  unfold commAny
  iintro ⟨%f, H⟩
  iapply ((Entails.of_eq (Ring.pointsTo_blocks (slotSet c ch) (slotSet_cut c ch).1 (slotSet_cut c ch).2 f)).trans
    (bigSep_mono fun b _ => show _ ⊢ slotAny c ch b.1 b.2 from by
      unfold slotAny slotPts; iintro H; iexists f; iexact H)) $$ H

/-- And the slots are the buffer. -/
theorem comm_join (c : Dev nD) (ch : Bool) :
    (bigSep Finset.univ fun b : Fin 4 × Fin 4 => slotAny (F := F) c ch b.1 b.2) ⊢ commAny c ch := by
  have e : (bigSep Finset.univ fun b => iprop(∃ f : Buf (Elt F) ((comm ch).view.loc (c : Thread nD τ)), ((comm ch).view.loc (c : Thread nD τ)) ↦[slotSet c ch b]{fullShare} f))
      ⊢ (commAny c ch : sProp 𝕄) :=
    Ring.pointsTo_blocks_join_exists (slotSet c ch) (slotSet_cut c ch).1 (slotSet_cut c ch).2 (by
      cases ch <;> exact fun _ => (FloatOps.ofBits .f32 0 : F .f32))
  exact e

end Cert.RingProof

end
-- ==== Proof.Body.lean ====
/-
# One device's whole program

From what the launch gives a device to what it leaves: the output block written, both communication buffers whole again,
and every semaphore back at zero.
-/
module

public import proofs.«01_k».proof.Proof.Lanes

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cell → ℕ)

/-! ## The phases -/

/-- All eight first lanes. -/
theorem wp_initPhase (c : Dev nD) (Φ : PUnit → sProp 𝕄) :
    iprop(lanes (fun ch r => iprop(slotAny c ch 0 r ∗ ready c (ch, 0, r))) ∗ (ctx m ρ K ∗ Stg m ρ c ∗ Owe c 0))
      ⊢ iprop((lanes (fun ch r => sent c (ch, 0, r)) ∗ (ctx m ρ K ∗ Stg m ρ c ∗ Owe c 8) -∗ Φ ⟨⟩)
        -∗ WP c (forR fun r => both fun ch => initLane c ch r) Φ) :=
  wp_lanes c (fun ch r => initLane c ch r) _ _ (fun n => iprop(ctx m ρ K ∗ Stg m ρ c ∗ Owe c (8 * (0 : Fin 3).val + n)))
    (fun ch r Φ => wp_initLane m ρ K c ch r Φ) Φ

/-- All eight middle lanes of a hop. -/
theorem wp_midPhase (c : Dev nD) (h h' : Fin 3) (k : Fin 4) (hk : h.succ = k) (hh : h'.castSucc = h.succ) (Φ : PUnit → sProp 𝕄) :
    iprop(lanes (fun ch r => iprop(sent c (ch, h, r) ∗ ready c (ch, h', r))) ∗ (ctx m ρ K ∗ Owe c (8 * h'.val)))
      ⊢ iprop((lanes (fun ch r => iprop(rcvd c (ch, h, r) ∗ sent c (ch, h', r))) ∗ (ctx m ρ K ∗ Owe c (8 * h'.val + 8)) -∗ Φ ⟨⟩)
        -∗ WP c (forR fun r => both fun ch => midLane c h h' (fun ch r => own m ρ c ch k r) ch r) Φ) := by
  subst hk
  exact wp_lanes c (fun ch r => midLane c h h' (fun ch r => own m ρ c ch h.succ r) ch r) _ _
    (fun n => iprop(ctx m ρ K ∗ Owe c (8 * h'.val + n))) (fun ch r Φ => wp_midLane m ρ K c h h' hh ch r Φ) Φ

/-- All eight last lanes. -/
theorem wp_lastPhase (c : Dev nD) (Φ : PUnit → sProp 𝕄) :
    iprop(lanes (fun ch r => sent c (ch, 2, r)) ∗ (ctx m ρ K ∗ Owe c 24 ∗ OutUpTo m ρ c 0))
      ⊢ iprop((lanes (fun ch r => iprop(rcvd c (ch, 2, r) ∗ slotAny c ch 3 r)) ∗ (ctx m ρ K ∗ Owe c 24 ∗ OutUpTo m ρ c 8) -∗ Φ ⟨⟩)
        -∗ WP c (forR fun r => both fun ch => lastLane (fun ch r => own m ρ c ch 3 r) ch r) Φ) :=
  wp_lanes c (fun ch r => lastLane (fun ch r => own m ρ c ch 3 r) ch r) _ _ (fun n => iprop(ctx m ρ K ∗ Owe c 24 ∗ OutUpTo m ρ c n))
    (fun ch r Φ => wp_lastLane m ρ K c ch r Φ) Φ

/-- The eight waits for a hop's transfers to have left. -/
theorem wp_drainPhase (c : Dev nD) (h : Fin 3) (Φ : PUnit → sProp 𝕄) :
    iprop(lanes (fun ch r => rcvd c (ch, h, r)) ∗ (ctx m ρ K ∗ Owe c 24))
      ⊢ iprop((lanes (fun ch r => drained c (ch, h, r)) ∗ (ctx m ρ K ∗ Owe c 24) -∗ Φ ⟨⟩)
        -∗ WP c (forR fun r => both fun ch => waitSend ch h r) Φ) :=
  wp_lanes c (fun ch r => waitSend ch h r) _ _ (fun n => iprop(ctx m ρ K ∗ Owe c 24)) (fun ch r Φ => by
    iintro ⟨Hr, #Hctx, HO⟩ HΦ
    iapply (wp_drainLane m ρ K c ch h r) $$ [Hr HO]
    · isplitr; · iexact Hctx
      isplitl [Hr]; · iexact Hr
      iexact HO
    iintro ⟨Hd, HO⟩
    iapply HΦ
    isplitl [Hd]; · iexact Hd
    isplitr; · iexact Hctx
    iexact HO) Φ

/-! ## The handshake -/

/-- A device's own landing slots of a direction. -/
def landing (c : Dev nD) (ch : Bool) : sProp 𝕄 := bigSep Finset.univ fun y : Fin 3 × Fin 4 => slotAny c ch y.1.succ y.2

/-- They are what the handshake unit to that direction's source hands over. -/
theorem pays_bar (c : Dev nD) (ch : Bool) : landing c ch ⊢ (sched m ρ).payload ((src c ch : Thread nD τ), .reg barS) 0 ch := by
  show _ ⊢ (sched m ρ).payload (barCell (src c ch)) 0 ch
  rw [payload_cell, show pay m ρ (src c ch) ch (some none) = barPay (src c ch) ch from rfl]
  unfold barPay landing
  rw [tgt_src]

/-- Either unit is a duty of a barrier cell. -/
theorem bar_duty (c : Dev nD) (d : Bool) : d ∈ (sched (F := F) m ρ).duties (barCell c) 0 := by
  rw [duties_cell]; exact Finset.mem_univ _

/-- A device's part in the handshake: a unit to pay to each neighbour, and two to receive. -/
def hand (c : Dev nD) : sProp 𝕄 :=
  iprop(dutyTok ER (barCell (src c false)) 0 false ∗ dutyTok ER (barCell (src c true)) 0 true
    ∗ atPos ER (barCell c) 0 ∅ 0 ∗ cred (tallyAt (barCell c) () 2))

/-- After the handshake a device holds the landing slots it will send to. -/
theorem wp_handshake (c : Dev nD) (Φ : PUnit → sProp 𝕄) :
    iprop(ctx m ρ K ∗ hand c ∗ landing c false ∗ landing c true ∗ (∃ W, owes (c : Thread nD τ) (O₀ c) W))
      ⊢ iprop((Owe c 0 ∗ atPos ER (barCell c) (0 + 1) ∅ 0 ∗ (bigSep Finset.univ fun ch => barPay c ch) -∗ Φ ⟨⟩) -∗ WP c (handshake c) Φ) := by
  have e1 : (⟨k0_dev1 c, k0_dev1_lt c⟩ : Dev nD) = src c false := Fin.ext (k0_dev1_eq c)
  have e2 : (⟨k0_dev2 c, k0_dev2_lt c⟩ : Dev nD) = src c true := Fin.ext (k0_dev2_eq c)
  unfold handshake hand
  rw [e1, e2]
  simp only [semSignalWord, semWaitWord, Prog.lift, Prog.bind_op, Prog.bind_ret, Prog.pure_eq_ret]
  iintro ⟨#Hctx, ⟨Ht0, Ht1, Ha, Hc⟩, Hl0, Hl1, ⟨%W, HO⟩⟩ HΦ
  ihave #⟨HI0, Hr0⟩ := (ctx_cell m ρ K (src c false) none) $$ Hctx
  ihave #⟨HI1, Hr1⟩ := (ctx_cell m ρ K (src c true) none) $$ Hctx
  ihave #⟨HI, -⟩ := (ctx_cell m ρ K c none) $$ Hctx
  unfold ctx
  icases Hctx with ⟨-, #Hlev⟩
  iapply (Rounds.wp_signal 𝒱₀ ER (sched m ρ) (c : Thread nD τ) none (dst := (src c false : Thread nD τ)) (κ := K (src c false, none))
      (d := false) (bar_duty m ρ (src c false) false) ((amount_cell m ρ (src c false) none false).trans (by decide)) () (O₁ c) rfl)
    $$ [HO Ht0 Hl0]
  · isplitr; · iexact HI0
    isplitl [HO]; · iexact HO
    isplitl [Ht0]; · iexact Ht0
    isplitl [Hl0]; · iapply (pays_bar m ρ c false); iexact Hl0
    iexact Hr0
  iintro HO
  unfold O₁
  iapply (Rounds.wp_signal 𝒱₀ ER (sched m ρ) (c : Thread nD τ) none (dst := (src c true : Thread nD τ)) (κ := K (src c true, none))
      (d := true) (bar_duty m ρ (src c true) true) ((amount_cell m ρ (src c true) none true).trans (by decide)) () (owed c 0) rfl)
    $$ [HO Ht1 Hl1]
  · isplitr; · iexact HI1
    isplitl [HO]; · iexact HO
    isplitl [Ht1]; · iexact Ht1
    isplitl [Hl1]; · iapply (pays_bar m ρ c true); iexact Hl1
    iexact Hr1
  iintro HO
  iapply (Rounds.wp_wait_rest_token 𝒱₀ ER (sched m ρ) (c : Thread nD τ) none (κ := K (c, none))
      (wpE_semWait_eq 𝒱₀ (c : Thread nD τ) none Set.univ) (Set.mem_univ _) () (O := owed c 0) (W := W) (R := 0) (m := 0) (T := ∅)
      (show 0 + (2#32).toNat = (sched m ρ).expect (barCell c) 0 by rw [expect_bar]; decide)) $$ [Hc HO Ha]
  · isplitr; · iexact HI
    isplitl [Hc]; · iexact Hc
    isplitl [HO]; · iexact HO
    isplitr; · iapply (mayWait c none 0 (fun x _ => by dsimp only [lvl]; omega)); iexact Hlev
    iexact Ha
  iintro ⟨HO, Ha, -, Hpay⟩
  ihave Hp := (show bigSep ((sched m ρ).duties ((c : Thread nD τ), .reg barS) 0 \ ∅) (fun d => (sched m ρ).payload ((c : Thread nD τ), .reg barS) 0 d)
      ⊢ bigSep Finset.univ (fun d => barPay c d) from Entails.of_eq (rest_bar m ρ c)) $$ Hpay
  rw [wp_ret]
  imodintro
  iapply HΦ
  isplitl [HO]
  · unfold Owe; iexists _; iexact HO
  isplitl [Ha]; · iexact Ha
  iexact Hp

/-! ## Cutting and gathering -/

omit [FloatOps F] in
/-- Sixteen slots are the four of slot row `0` and the twelve after them, -/
theorem slots_first (P : Fin 4 → Fin 4 → sProp 𝕄) :
    (bigSep Finset.univ fun b : Fin 4 × Fin 4 => P b.1 b.2)
      = iprop((bigSep Finset.univ fun r => P 0 r) ∗ bigSep Finset.univ fun y : Fin 3 × Fin 4 => P y.1.succ y.2) := by
  rw [bigSep_univ_prod, bigSep_univ_prod, bigSep_rows, bigSep_hops]
  rfl
omit [FloatOps F] in
/-- and the four of slot row `3` and the twelve before them. -/
theorem slots_last (P : Fin 4 → Fin 4 → sProp 𝕄) :
    iprop((bigSep Finset.univ fun y : Fin 3 × Fin 4 => P y.1.castSucc y.2) ∗ (bigSep Finset.univ fun r => P 3 r))
      ⊢ bigSep Finset.univ fun b : Fin 4 × Fin 4 => P b.1 b.2 := by
  refine BIBase.Entails.trans ?_ (Entails.of_eq ((bigSep_univ_prod _).trans (bigSep_rows _)).symm)
  rw [bigSep_univ_prod, bigSep_hops]
  iintro ⟨⟨H0, H1, H2⟩, H3⟩
  isplitl [H0]; · iexact H0
  isplitl [H1]; · iexact H1
  isplitl [H2]; · iexact H2
  iexact H3

/-- A device's both buffers are its first slots and its landing slots; -/
theorem buffers_split (c : Dev nD) :
    iprop(commAny (F := F) c false ∗ commAny c true) ⊢ iprop(lanes (fun ch r => slotAny c ch 0 r) ∗ landing c false ∗ landing c true) := by
  unfold lanes landing
  rw [bigSep_univ_comm, bigSep_bool]
  iintro ⟨H0, H1⟩
  ihave ⟨A0, B0⟩ := ((comm_split c false).trans (Entails.of_eq (slots_first fun k r => slotAny c false k r))) $$ H0
  ihave ⟨A1, B1⟩ := ((comm_split c true).trans (Entails.of_eq (slots_first fun k r => slotAny c true k r))) $$ H1
  isplitl [A0 A1]
  · isplitl [A0]; · iexact A0
    iexact A1
  isplitl [B0]; · iexact B0
  iexact B1

/-- and the slots a device sent from and its last slots are both buffers. -/
theorem buffers_join (c : Dev nD) :
    iprop((bigSep Finset.univ fun x : X => slotAny (F := F) c x.1 x.2.1.castSucc x.2.2) ∗ lanes (fun ch r => slotAny c ch 3 r))
      ⊢ iprop(commAny c false ∗ commAny c true) := by
  unfold lanes
  rw [bigSep_univ_prod, bigSep_univ_comm (α := Fin 4) (β := Bool), bigSep_bool, bigSep_bool]
  iintro ⟨⟨A0, A1⟩, B0, B1⟩
  isplitl [A0 B0]
  · iapply ((slots_last fun k r => slotAny c false k r).trans (comm_join c false))
    isplitl [A0]; · iexact A0
    iexact B0
  · iapply ((slots_last fun k r => slotAny c true k r).trans (comm_join c true))
    isplitl [A1]; · iexact A1
    iexact B1

/-- What a device holds for a transfer at the start, but for the slot it will land in. -/
def kit (c : Dev nD) (x : X) : sProp 𝕄 :=
  iprop(dutyTok ER (sendCell c x) 0 false ∗ dutyTok ER (recvCell (tgt c x.1) x) 0 false
    ∗ atPos ER (sendCell c x) 0 ∅ 0 ∗ atPos ER (recvCell c x) 0 ∅ 0 ∗ cred (tallyAt (recvCell c x) () N))

omit [FloatOps F] in
/-- With the slots the handshake brings, every transfer is ready. -/
theorem ready_intro (c : Dev nD) :
    iprop((bigSep Finset.univ fun x : X => kit (F := F) c x) ∗ (bigSep Finset.univ fun ch => barPay c ch)) ⊢ bigSep Finset.univ fun x : X => ready c x := by
  unfold barPay
  rw [← bigSep_univ_prod (fun x : X => slotAny (F := F) (tgt c x.1) x.1 x.2.1.succ x.2.2), ← bigSep_sep']
  refine bigSep_mono fun x _ => show iprop(kit c x ∗ slotAny (tgt c x.1) x.1 x.2.1.succ x.2.2) ⊢ ready c x from ?_
  unfold kit ready
  iintro ⟨⟨H1, H2, H3, H4, H5⟩, H6⟩
  isplitl [H1]; · iexact H1
  isplitl [H2]; · iexact H2
  isplitl [H3]; · iexact H3
  isplitl [H4]; · iexact H4
  isplitl [H5]; · iexact H5
  iexact H6

omit [FloatOps F] in
/-- What may be used again and again can be used once for each of a family. -/
theorem share_out {I : Type} [Fintype I] [DecidableEq I] {R : sProp 𝕄} [BI.Persistent R] {P Q : I → sProp 𝕄}
    (h : ∀ i, iprop(R ∗ P i) ⊢ Q i) : iprop(R ∗ bigSep Finset.univ P) ⊢ bigSep Finset.univ Q := by
  iintro ⟨HR, HP⟩
  ihave HRs := (BI.bigSep_of_persistent (Finset.univ : Finset I) R) $$ HR
  iapply ((Entails.of_eq (bigSep_sep' (Finset.univ : Finset I) (fun _ : I => R) P).symm).trans (bigSep_mono fun i _ => h i))
  isplitl [HRs]; · iexact HRs
  iexact HP

/-- A cell past its last round gives its counter back, at zero. -/
theorem cell_done (c : Dev nD) (k : Cell) :
    iprop(ctx m ρ K ∗ atPos ER (cell c k) (0 + 1) ∅ 0) ⊢ |={Set.univ}=> semVal (cell c k) 0 := by
  iintro ⟨#Hctx, Ha⟩
  ihave #⟨HI, -⟩ := (ctx_cell m ρ K c k) $$ Hctx
  iapply (Rounds.cell_close ER (sched m ρ) (Set.mem_univ (K (c, k))) (fun h => h) (R := 0 + 1) (duties_later m ρ (cell c k)))
  isplitr; · iexact HI
  iexact Ha

/-- The same of all of a family of cells. -/
theorem cells_done (c : Dev nD) {I : Type} [Fintype I] [DecidableEq I] (k : I → Cell) :
    iprop(ctx m ρ K ∗ bigSep Finset.univ fun i => atPos ER (cell c (k i)) (0 + 1) ∅ 0)
      ⊢ |={Set.univ}=> bigSep Finset.univ fun i => semVal (cell c (k i)) 0 := by
  refine BIBase.Entails.trans ?_ (bigSep_fupd _ _)
  exact share_out fun i => cell_done m ρ K c (k i)

/-- What a device leaves: its buffers and its semaphores at zero. -/
def closed (c : Dev nD) : sProp 𝕄 :=
  iprop((commAny c false ∗ commAny c true) ∗ (bigSep Finset.univ fun k : Bool × X => semVal (cell c (some k)) 0) ∗ semVal (barCell c) 0)

/-- All transfers done, everything is given back. -/
theorem closed_intro (c : Dev nD) :
    iprop(ctx m ρ K ∗ (bigSep Finset.univ fun x : X => drained (F := F) c x) ∗ lanes (fun ch r => slotAny c ch 3 r) ∗ atPos ER (barCell c) (0 + 1) ∅ 0)
      ⊢ |={Set.univ}=> closed c := by
  unfold drained closed
  rw [bigSep_univ_prod (fun k : Bool × X => semVal (cell c (some k)) 0), bigSep_bool, bigSep_sep', bigSep_sep']
  iintro ⟨#Hctx, ⟨HS, HR, Hs⟩, Hl, Hb⟩
  imod (cells_done m ρ K c (fun x : X => some (false, x))) $$ [HS] with HS
  · isplitr; · iexact Hctx
    iexact HS
  imod (cells_done m ρ K c (fun x : X => some (true, x))) $$ [HR] with HR
  · isplitr; · iexact Hctx
    iexact HR
  imod (cell_done m ρ K c none) $$ [Hb] with Hb
  · isplitr; · iexact Hctx
    iexact Hb
  imodintro
  isplitl [Hs Hl]
  · iapply (buffers_join c)
    isplitl [Hs]; · iexact Hs
    iexact Hl
  isplitl [HS HR]
  · isplitl [HS]; · iexact HS
    iexact HR
  iexact Hb

/-! ## The program -/

/-- What a device's program starts from. -/
def starts (c : Dev nD) : sProp 𝕄 :=
  iprop(ctx m ρ K ∗ hand c ∗ (bigSep Finset.univ fun x : X => kit c x))

omit [FloatOps F] in
/-- Lanes of pairs are pairs of lanes. -/
theorem lanes_sep (P Q : Bool → Fin 4 → sProp 𝕄) : lanes (fun ch r => iprop(P ch r ∗ Q ch r)) = iprop(lanes P ∗ lanes Q) := by
  unfold lanes
  simp only [bigSep_sep']

theorem tileNum_lt (i : S512x2048.Idx) : tileNum i < 8 := by
  have h1 : (i 1).val < 2048 := (i 1).isLt
  have h0 : (i 0).val < 512 := (i 0).isLt
  unfold tileNum
  omega

/-- One device's program, from start to end. -/
theorem wp_prog (c : Dev nD) (Φ : PUnit → sProp 𝕄) :
    iprop(starts m ρ K c ∗ (commAny c false ∗ commAny c true) ∗ Stg m ρ c ∗ (∃ W, owes (c : Thread nD τ) (O₀ c) W) ∗ OutUpTo m ρ c 0)
      ⊢ iprop((closed c ∗ Stg m ρ c ∗ (∃ W, owes (c : Thread nD τ) 0 W) ∗ (((c : Thread nD τ).loc cc0_stg2_0) ↦{fullShare} outAt m ρ c) -∗ Φ ⟨⟩)
        -∗ WP c prog Φ) := by
  unfold prog starts
  simp only [Prog.lift, Prog.bind_op, Prog.bind_ret, wp_deviceId, wp_bind]
  iintro ⟨⟨#Hctx, Hh, Hk⟩, Hb, Hstg, HO, Hout⟩ HΦ
  ihave ⟨Hs0, Hl0, Hl1⟩ := (buffers_split c) $$ Hb
  iapply (wp_handshake m ρ K c) $$ [Hh Hl0 Hl1 HO]
  · isplitr; · iexact Hctx
    isplitl [Hh]; · iexact Hh
    isplitl [Hl0]; · iexact Hl0
    isplitl [Hl1]; · iexact Hl1
    iexact HO
  iintro ⟨HO, Hbar, Hp⟩
  ihave Hr := ((ready_intro c).trans (Entails.of_eq ((bigSep_xfers (fun x => ready c x)).trans (bigSep_hops _)))) $$ [Hk Hp]
  · isplitl [Hk]; · iexact Hk
    iexact Hp
  icases Hr with ⟨Hr0, Hr1, Hr2⟩
  iapply (wp_initPhase m ρ K c) $$ [Hs0 Hr0 Hstg HO]
  · rw [lanes_sep]
    isplitl [Hs0 Hr0]
    · isplitl [Hs0]; · iexact Hs0
      iexact Hr0
    isplitr; · iexact Hctx
    isplitl [Hstg]; · iexact Hstg
    iexact HO
  iintro ⟨Hsent, -, Hstg, HO⟩
  iapply (wp_products m ρ c 1) $$ Hstg
  iintro Hstg
  iapply (wp_midPhase m ρ K c 0 1 1 rfl rfl) $$ [Hsent Hr1 HO]
  · rw [lanes_sep]
    isplitl [Hsent Hr1]
    · isplitl [Hsent]; · iexact Hsent
      iexact Hr1
    isplitr; · iexact Hctx
    iexact HO
  rw [lanes_sep]
  iintro ⟨⟨Hv0, Hsent⟩, -, HO⟩
  iapply (wp_products m ρ c 2) $$ Hstg
  iintro Hstg
  iapply (wp_midPhase m ρ K c 1 2 2 rfl rfl) $$ [Hsent Hr2 HO]
  · rw [lanes_sep]
    isplitl [Hsent Hr2]
    · isplitl [Hsent]; · iexact Hsent
      iexact Hr2
    isplitr; · iexact Hctx
    iexact HO
  rw [lanes_sep]
  iintro ⟨⟨Hv1, Hsent⟩, -, HO⟩
  iapply (wp_products m ρ c 3) $$ Hstg
  iintro Hstg
  iapply (wp_lastPhase m ρ K c) $$ [Hsent Hout HO]
  · isplitl [Hsent]; · iexact Hsent
    isplitr; · iexact Hctx
    isplitl [HO]; · iexact HO
    iexact Hout
  rw [lanes_sep]
  iintro ⟨⟨Hv2, Hs3⟩, -, HO, Hout⟩
  iapply (wp_drainPhase m ρ K c 0) $$ [Hv0 HO]
  · isplitl [Hv0]; · iexact Hv0
    isplitr; · iexact Hctx
    iexact HO
  iintro ⟨Hd0, -, HO⟩
  iapply (wp_drainPhase m ρ K c 1) $$ [Hv1 HO]
  · isplitl [Hv1]; · iexact Hv1
    isplitr; · iexact Hctx
    iexact HO
  iintro ⟨Hd1, -, HO⟩
  iapply (wp_fupd _ _ _ _ _)
  iapply (wp_drainPhase m ρ K c 2) $$ [Hv2 HO]
  · isplitl [Hv2]; · iexact Hv2
    isplitr; · iexact Hctx
    iexact HO
  iintro ⟨Hd2, -, HO⟩
  imod (closed_intro m ρ K c) $$ [Hd0 Hd1 Hd2 Hs3 Hbar] with Hclosed
  · isplitr; · iexact Hctx
    isplitl [Hd0 Hd1 Hd2]
    · rw [bigSep_xfers, bigSep_hops]
      isplitl [Hd0]; · iexact Hd0
      isplitl [Hd1]; · iexact Hd1
      iexact Hd2
    isplitl [Hs3]; · iexact Hs3
    iexact Hbar
  imodintro
  iapply HΦ
  isplitl [Hclosed]; · iexact Hclosed
  isplitl [Hstg]; · iexact Hstg
  isplitl [HO]
  · unfold Owe
    rw [owed_end]
    iexact HO
  · unfold OutUpTo
    icases Hout with ⟨%f, %hf, Hout⟩
    rw [show f = outAt m ρ c from funext fun i => hf i (tileNum_lt i)]
    iexact Hout

end Cert.RingProof

end
-- ==== Proof.Launch.lean ====
/-
# The launch

What the launch deals to each device, the staging pipeline's data around the one program point, and the run of the whole
program: it ends, with every device's output block at the three-hop sums, its inputs as they were, and every semaphore
at zero.
-/
module

public import proofs.«01_k».proof.Proof.Body
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Around the one program point -/

/-- What a device's program starts from, at some names of the invariants. -/
def start (c : Dev nD) : sProp 𝕄 := iprop(∃ K, starts m ρ K c)

/-- The state before and after the point, beside the staged blocks. -/
def Φ₀ (c : Dev nD) : sProp 𝕄 := iprop(start m ρ c ∗ commAny c false ∗ commAny c true)

/-- The pipeline's data: the arrays as launched, the staged blocks after the point, what is owed before and after. -/
def dats (_ : Fin 1) (c : Dev nD) : Dat τ (Elt F) Unit ℕ UU ℕ cfg0 c where
  A w := (s₀ m ρ).mem ((cfg0.win w).arr.view.loc c)
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => closed c
  q _ := fullShare
  owed t := match t with
    | ⟨0, _⟩ => O₀ c
    | ⟨_ + 1, _⟩ => 0

/-- A staging buffer owned at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- The state before the point, -/
def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
/-- and after it. -/
def bodyPost (c : Dev nD) : sProp 𝕄 :=
  iprop(closed c ∗ (dats m ρ 0 c).owesAt () t0_0.succ ∗ stg c cc0_stg0_0 (xstg m ρ c) ∗ stg c cc0_stg1_0 (wstg m ρ c)
    ∗ stg c cc0_stg2_0 (outAt m ρ c))

/-- Both operands are fetched at the point. -/
theorem fetch_x : (cfg0.win (0 : Fin 3)).fetch t0_0 = true := rfl
theorem fetch_w : (cfg0.win (1 : Fin 3)).fetch t0_0 = true := rfl

/-- The program takes the one to the other. -/
theorem wp_body (c : Dev nD) : bodyPre m ρ c ⊢ WP c prog (fun _ => bodyPost m ρ c) := by
  unfold bodyPre bodyPost Φ₀ start Dat.owesAt Pipeline.owesWithin
  rw [show (dats m ρ 0 c).owed t0_0.castSucc = O₀ c from rfl, show (dats m ρ 0 c).owed t0_0.succ = 0 from rfl]
  iintro ⟨⟨⟨%K, Hs⟩, Hc⟩, ⟨%W, %hW, HO⟩, ⟨%d0, %g0, %hg0, Hx⟩, ⟨%d1, %g1, %hg1, Hw⟩, ⟨%d2, %g2, %hg2, Ho⟩⟩
  have hx : g0 = xstg m ρ c := by rw [hg0]; unfold Dat.before; rw [if_pos fetch_x]; rfl
  have hw : g1 = wstg m ρ c := by rw [hg1]; unfold Dat.before; rw [if_pos fetch_w]; rfl
  subst hx hw
  iapply (wp_prog m ρ K c) $$ [Hs Hc HO Hx Hw Ho]
  · isplitl [Hs]; · iexact Hs
    isplitl [Hc]; · iexact Hc
    isplitl [Hx Hw]
    · unfold Stg
      isplitl [Hx]; · iexact Hx
      iexact Hw
    isplitl [HO]; · iexists W; iexact HO
    unfold OutUpTo
    iexists g2
    isplitr
    · ipureintro; exact fun i hi => absurd hi (Nat.not_lt_zero _)
    · iexact Ho
  unfold Stg
  iintro ⟨Hcl, ⟨Hx, Hw⟩, ⟨%W', HO⟩, Ho⟩
  isplitl [Hcl]; · iexact Hcl
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

set_option maxRecDepth 100000 in
/-- The pipeline's obligation for the body. -/
theorem body_obligation (c : Dev nD) : BodyObligation (dats (F := F) m ρ 0 c) (defs₀ (F := F)) 𝒱₀ () Set.univ := fun t => by
  rw [fin_N0 t, bigSep_W0, bigSep_W0]
  simp only [owns_stg]
  show bodyPre m ρ c ⊢ wp frame (wpE (defs₀ (F := F)) 𝒱₀ c none) Set.univ
    (cc0_body xM (Memref.isWhole_whole _) wM (Memref.isWhole_whole _) oM (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m ρ c)
  rw [body_eq]
  exact wp_body m ρ c

/-! ## What the launch deals -/

/-- The transfers' semaphores are the kernel's own, distinct, and no staging buffer's. -/
theorem ownSemFacts : Pipeline.OwnSemFacts cfg0.spec osem := by decide +kernel

theorem share_eq (c : Dev nD) (w : Fin cfg0.W) : (dats m ρ 0 c).share w = fullShare := by unfold Dat.share; split <;> rfl

/-- Cells of different devices or names are different. -/
theorem cell_inj {a b : Dev nD} {k k' : Cell} (h : cell a k = cell b k') : a = b ∧ k = k' :=
  ⟨congrArg (fun g : GSem nD τ sig => g.1.1) h, csem_injective (congrArg Prod.snd h)⟩
theorem cells_injective : Function.Injective (fun p : Dev nD × Cell => (cell p.1 p.2 : GSem nD τ sig)) :=
  fun p q h => Prod.ext (cell_inj h).1 (cell_inj h).2

/-- All cells, -/
def ringCells : Finset (GSem nD τ sig) := Finset.univ.map ⟨fun p : Dev nD × Cell => cell p.1 p.2, cells_injective⟩
/-- and both duty tokens of each one's round 0. -/
def ringToks : Finset (GSem nD τ sig × ℕ × Bool) :=
  Finset.univ.map ⟨fun p : (Dev nD × Cell) × Bool => (cell p.1.1 p.1.2, 0, p.2), fun p q h =>
    Prod.ext (cells_injective (congrArg Prod.fst h)) (congrArg (fun x : GSem nD τ sig × ℕ × Bool => x.2.2) h)⟩

def u₀ : UU :=
  (initOf (Pipeline.cells cfgs cellOf_inj) (Pipeline.launchToks cfgs cellOf_inj), initOf ringCells ringToks)

/-- The duty tokens of a device's own cells. -/
def toks (c : Dev nD) : sProp 𝕄 := bigSep Finset.univ fun k : Cell => bigSep Finset.univ fun d : Bool => dutyTok ER (cell c k) 0 d

/-- What a device is dealt. -/
def G (c : Dev nD) : sProp 𝕄 :=
  iprop((bigSep Finset.univ fun k : Cell => roundState ER (sched m ρ) (cell c k) 0)
    ∗ (bigSep Finset.univ fun k : Cell => atPos ER (cell c k) 0 ∅ 0) ∗ (bigSep Finset.univ fun k : Cell => reached ER (cell c k) 0) ∗ toks c)

omit [FloatOps F] in
/-- Something for every cell is that for the barrier cell and for every transfer's two. -/
theorem bigSep_cells (P : Cell → sProp 𝕄) :
    bigSep Finset.univ P = iprop(P none ∗ (bigSep Finset.univ fun x : X => P (some (false, x))) ∗ bigSep Finset.univ fun x : X => P (some (true, x))) := by
  rw [bigSep_univ_at P none, show (Finset.univ.erase none : Finset Cell) = Finset.univ.map Function.Embedding.some from by
    ext k; cases k <;> simp, bigSep_map, bigSep_univ_prod, bigSep_bool]
  rfl

/-- The launch's ghost state is what the devices are dealt. -/
theorem fund_ring : BI.own (ER (initOf ringCells ringToks)) ⊢ (|==> bigSep Finset.univ (G m ρ) : sProp 𝕄) := by
  have hX (P : GSem nD τ sig → sProp 𝕄) : bigSep ringCells P = bigSep Finset.univ fun c : Dev nD => bigSep Finset.univ fun k : Cell => P (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod, bigSep_univ_prod]; rfl
  unfold G
  simp only [bigSep_sep']
  rw [← hX (fun g => roundState ER (sched m ρ) g 0), ← hX (fun g => atPos ER g 0 ∅ 0), ← hX (fun g => reached ER g 0), ← hT]
  iintro H
  imod (Rounds.fund ER (sched m ρ) ringCells ringToks) $$ H with ⟨Hst, Hr, Hat, Htok⟩
  imodintro
  isplitl [Hst]; · iexact Hst
  isplitl [Hat]; · iexact Hat
  isplitl [Hr]; · iexact Hr
  iexact Htok

omit [FloatOps F] in
/-- The one semaphore outside the launch's scope is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's counters at zero. -/
def zeros (c : Dev nD) : sProp 𝕄 :=
  iprop(Pipeline.ownSems0 (Ix := Unit) (Name := ℕ) (U := UU) (Lvl := ℕ) (Val := Elt F) (τ := τ) osem c ∗ unscopedSems0 c)

omit [FloatOps F] in
theorem zeros_cells (c : Dev nD) : (zeros c : sProp 𝕄) ⊢ bigSep Finset.univ fun k : Cell => semVal (cell c k) 0 := by
  unfold zeros Pipeline.ownSems0
  rw [unscopedSems0_eq, bigSep_cells, bigSep_univ_prod, bigSep_bool]
  iintro ⟨⟨H0, H1⟩, HB⟩
  isplitl [HB]; · iexact HB
  isplitl [H0]; · iexact H0
  iexact H1

/-- Every cell's invariant and that its round 0 is reached. -/
def ring (K : Dev nD × Cell → ℕ) : sProp 𝕄 :=
  bigSep Finset.univ fun p : Dev nD × Cell => iprop(cellInv ER (sched m ρ) (K p) (cell p.1 p.2) ∗ reached ER (cell p.1 p.2) 0)

instance ring_persistent (K : Dev nD × Cell → ℕ) : BI.Persistent (ring m ρ K) := by unfold ring; infer_instance

/-- A device's positions, and the tokens of the duties it pays. -/
def payToks (c : Dev nD) : sProp 𝕄 :=
  iprop((dutyTok ER (barCell (src c false)) 0 false ∗ dutyTok ER (barCell (src c true)) 0 true)
    ∗ (bigSep Finset.univ fun x : X => dutyTok ER (sendCell c x) 0 false)
    ∗ bigSep Finset.univ fun x : X => dutyTok ER (recvCell (tgt c x.1) x) 0 false)
def linear (c : Dev nD) : sProp 𝕄 := iprop((bigSep Finset.univ fun k : Cell => atPos ER (cell c k) 0 ∅ 0) ∗ payToks c)

/-- What a device holds once every invariant stands. -/
def G' (c : Dev nD) : sProp 𝕄 := iprop(∃ K, ring m ρ K ∗ linear c)

/-- The devices in the order of their targets in a direction. -/
def turn (ch : Bool) : Dev nD ≃ Dev nD := ⟨fun c => tgt c ch, fun c => src c ch, fun c => src_tgt c ch, fun c => tgt_src c ch⟩

omit [FloatOps F] in
/-- Every device's own tokens are, together, the tokens of what every device pays. -/
theorem toks_around : (bigSep Finset.univ fun c : Dev nD => (toks c : sProp 𝕄)) ⊢ bigSep Finset.univ fun c : Dev nD => payToks c := by
  have hbar (ch : Bool) : (bigSep Finset.univ fun c : Dev nD => (dutyTok ER (barCell c) 0 ch : sProp 𝕄))
      = bigSep Finset.univ fun c : Dev nD => dutyTok ER (barCell (src c ch)) 0 ch :=
    bigSep_univ_equiv (turn ch).symm _
  have hrecv : (bigSep Finset.univ fun c : Dev nD => bigSep Finset.univ fun x : X => (dutyTok ER (recvCell c x) 0 false : sProp 𝕄))
      = bigSep Finset.univ fun c : Dev nD => bigSep Finset.univ fun x : X => dutyTok ER (recvCell (tgt c x.1) x) 0 false := by
    rw [bigSep_univ_comm, bigSep_univ_comm (α := Dev nD)]
    exact bigSep_congr fun x _ => bigSep_univ_equiv (turn x.1) _
  unfold toks payToks
  simp only [bigSep_cells, bigSep_bool, bigSep_sep']
  rw [hbar false, hbar true, hrecv]
  iintro ⟨⟨HB0, HS, HR⟩, HB1, -, -⟩
  isplitl [HB0 HB1]
  · isplitl [HB0]; · iexact HB0
    iexact HB1
  isplitl [HS]; · iexact HS
  iexact HR

/-- Every device's cells get their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cell => iprop(∃ κ : ℕ, cellInv ER (sched m ρ) κ (cell c k)))
          ∗ (bigSep Finset.univ fun k : Cell => atPos ER (cell c k) 0 ∅ 0) ∗ (bigSep Finset.univ fun k : Cell => reached ER (cell c k) 0) ∗ toks c) := by
  have hinv : iprop((bigSep Finset.univ fun k : Cell => semVal (cell c k) 0) ∗ bigSep Finset.univ fun k : Cell => roundState ER (sched m ρ) (cell c k) 0)
      ⊢ (|={Set.univ}=> bigSep Finset.univ fun k : Cell => iprop(∃ κ : ℕ, cellInv ER (sched m ρ) κ (cell c k)) : sProp 𝕄) := by
    rw [← bigSep_sep']
    exact (bigSep_mono fun k _ => (Rounds.body_intro ER (sched m ρ) (cell c k)).trans inv_alloc).trans (bigSep_fupd _ _)
  unfold G
  iintro ⟨Hos, Hus, Hst, Hrest⟩
  ihave Hv := (zeros_cells (F := F) c) $$ [Hos Hus]
  · unfold zeros
    isplitl [Hos]; · iexact Hos
    iexact Hus
  imod hinv $$ [Hv Hst] with Hinv
  · isplitl [Hv]; · iexact Hv
    iexact Hst
  imodintro
  isplitl [Hinv]; · iexact Hinv
  iexact Hrest

/-- The invariants go to every device, the tokens to those who pay. -/
theorem regroup :
    (bigSep Finset.univ fun c : Dev nD => iprop((bigSep Finset.univ fun k : Cell => iprop(∃ κ : ℕ, cellInv ER (sched m ρ) κ (cell c k)))
          ∗ (bigSep Finset.univ fun k : Cell => atPos ER (cell c k) 0 ∅ 0) ∗ (bigSep Finset.univ fun k : Cell => reached ER (cell c k) 0) ∗ toks c) : sProp 𝕄)
      ⊢ bigSep Finset.univ (G' m ρ) := by
  rw [bigSep_sep', bigSep_sep', bigSep_sep', ← bigSep_univ_prod (fun p : Dev nD × Cell => iprop(∃ κ : ℕ, cellInv ER (sched m ρ) κ (cell p.1 p.2))),
    ← bigSep_univ_prod (fun p : Dev nD × Cell => (reached ER (cell p.1 p.2) 0 : sProp 𝕄))]
  iintro ⟨HI, Hat, HR, Htok⟩
  ihave HK := (BI.bigSep_exists_pi Finset.univ (fun (p : Dev nD × Cell) (κ : ℕ) => (cellInv ER (sched m ρ) κ (cell p.1 p.2) : sProp 𝕄))) $$ HI
  icases HK with ⟨%K, HI⟩
  ihave Htk := (toks_around (F := F)) $$ Htok
  iapply (share_out (R := ring m ρ K) (P := fun c => linear c) fun c => show iprop(ring m ρ K ∗ linear c) ⊢ G' m ρ c from by
    unfold G'; iintro H; iexists K; iexact H)
  unfold ring linear
  rw [bigSep_sep', bigSep_sep']
  isplitl [HI HR]
  · isplitl [HI]; · iexact HI
    iexact HR
  isplitl [Hat]; · iexact Hat
  iexact Htk

/-- All devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit of what the devices owe one another -/

theorem cell_eq_iff (a b : Dev nD) (k k' : Cell) : Iff (cell a k = cell b k') (a = b ∧ k = k') :=
  ⟨cell_inj, fun h => by rw [h.1, h.2]⟩

/-- What a device owes a receive cell at the start, and what it owes a barrier cell. -/
theorem owed_recv (d c : Dev nD) (x : X) : O₀ d (recvCell c x) () = if d = src c x.1 then N else 0 := by
  have hd (y : X) : (if recvCell c x = recvCell (tgt d y.1) y ∧ () = () then N else 0) = if y = x then (if d = src c x.1 then N else 0) else 0 := by
    by_cases hy : y = x
    · subst hy
      rw [if_pos rfl]
      refine if_congr ?_ rfl rfl
      rw [cell_eq_iff]
      exact ⟨fun h => by rw [h.1.1, src_tgt], fun h => ⟨⟨by rw [h, tgt_src], rfl⟩, rfl⟩⟩
    · rw [if_neg hy, if_neg]
      rintro ⟨h, -⟩
      exact hy (congrArg Prod.snd (Option.some.inj (cell_inj h).2)).symm
  have hb (b : Dev nD) : (tallyAt (barCell b) () 1 : CellTallies nD τ sig Unit) (recvCell c x) () = 0 := by
    rw [tallyAt_apply, if_neg]
    rintro ⟨h, -⟩
    cases (cell_inj h).2
  unfold O₀ O₁ owed
  rw [Pi.add_apply, Finsupp.add_apply, Pi.add_apply, Finsupp.add_apply, hb, hb, add_zero, add_zero,
    Finset.filter_true_of_mem fun y _ => Nat.zero_le _, Finset.sum_apply, Finsupp.finset_sum_apply,
    Finset.sum_congr rfl fun y _ => (tallyAt_apply _ _ _ _ _).trans (hd y), Finset.sum_ite_eq' Finset.univ x, if_pos (Finset.mem_univ _)]
theorem owed_bar (d c : Dev nD) : O₀ d (barCell c) () = (if d = tgt c true then 1 else 0) + (if d = tgt c false then 1 else 0) := by
  have hb (ch : Bool) : (tallyAt (barCell (src d ch)) () 1 : CellTallies nD τ sig Unit) (barCell c) () = if d = tgt c ch then 1 else 0 := by
    rw [tallyAt_apply]
    refine if_congr ?_ rfl rfl
    rw [cell_eq_iff]
    exact ⟨fun h => by rw [h.1.1, tgt_src], fun h => ⟨⟨by rw [h, src_tgt], rfl⟩, rfl⟩⟩
  have h0 : owed d 0 (barCell c) () = 0 := by
    by_contra h
    obtain ⟨x, -, hx⟩ := owed_pos (Nat.pos_of_ne_zero h)
    cases (cell_inj hx).2
  unfold O₀ O₁
  rw [Pi.add_apply, Finsupp.add_apply, Pi.add_apply, Finsupp.add_apply, hb, hb, h0, zero_add]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (tgt c true) fun _ => 1, Finset.sum_ite_eq' Finset.univ (tgt c false) fun _ => 1, if_pos (Finset.mem_univ _), if_pos (Finset.mem_univ _)]
theorem launch_recv (c : Dev nD) (x : X) :
    tallyOn (recvCell c x) (launchCredit (Pipeline.owing O₀) 0 (recvCell c x)) = (tallyAt (recvCell c x) () N : CellTallies nD τ sig Unit) := by
  unfold tallyAt; refine congrArg _ (Finsupp.ext fun u => ?_); cases u
  rw [Pipeline.launchCredit_owing, Finsupp.single_eq_same, Finset.sum_congr rfl fun d _ => owed_recv d c x,
    Finset.sum_ite_eq' Finset.univ (src c x.1) fun _ => N, if_pos (Finset.mem_univ _)]

omit [FloatOps F] in
/-- Two units to the barrier cell and a tile to each receive cell. -/
theorem creds (c : Dev nD) :
    (Pipeline.launchCred O₀ c : sProp 𝕄)
      ⊢ iprop(cred (tallyAt (barCell c) () 2) ∗ bigSep Finset.univ fun x : X => cred (tallyAt (recvCell c x) () N)) := by
  unfold Pipeline.launchCred
  refine (bigSep_subset (Finset.subset_univ (Finset.univ.map ⟨csem, csem_injective⟩))).trans ?_
  rw [bigSep_map, bigSep_cells]
  refine BIClass.sep_mono (Entails.of_eq (congrArg cred (launch_bar c))) ?_
  refine BIBase.Entails.trans sep_elim_right (bigSep_mono fun x _ => Entails.of_eq (congrArg cred (launch_recv c x)))

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  have hctx (K : Dev nD × Cell → ℕ) : iprop(ring m ρ K ∗ levAts L lv) ⊢ ctx m ρ K := Entails.of_eq rfl
  unfold G' linear payToks start starts hand kit
  simp only [bigSep_sep', bigSep_cells]
  iintro ⟨-, Hlev, Hcr, -, ⟨%K, HG, ⟨HaB, HaS, HaR⟩, ⟨Ht0, Ht1⟩, HtS, HtR⟩⟩
  ihave Hc := (creds (F := F) c) $$ Hcr
  icases Hc with ⟨H2, HN⟩
  imodintro
  isplitl
  · iexists K
    isplitl [HG Hlev]
    · iapply (hctx K)
      isplitl [HG]; · iexact HG
      iexact Hlev
    isplitl [Ht0 Ht1 HaB H2]
    · isplitl [Ht0]; · iexact Ht0
      isplitl [Ht1]; · iexact Ht1
      isplitl [HaB]; · iexact HaB
      iexact H2
    isplitl [HtS]; · iexact HtS
    isplitl [HtR]; · iexact HtR
    isplitl [HaS]; · iexact HaS
    isplitl [HaR]; · iexact HaR
    iexact HN
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ commAny
  iintro ⟨Hs, -, H0, H1⟩
  isplitl [Hs]; · iexact Hs
  isplitl [H0]; · iexact H0
  iexact H1

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = closed c from rfl, scopedRest0_eq, unscopedSems0_eq]
  unfold closed Pipeline.ownSems0 commAny
  iintro ⟨Hb, Hz, HzB⟩
  isplitl [HzB]; · iexact HzB
  isplitl [Hz]; · iexact Hz
  iexact Hb

/-- No staging semaphore is a cell of the protocol. -/
theorem stage_apart : ∀ (w : Fin cfg0.W) (s : Fin (cfg0.spec w).nbuf) (k : Cell), csem k ≠ SemLoc.dma ((cfg0.spec w).sem s) := by decide +kernel

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_apart w s) _ (by
      rcases t with ⟨_ | _, ht⟩
      · exact Or.inl rfl
      · exact Or.inr rfl)

/-! ## The run -/

/-- An array after the run. -/
def finalA (c : Dev nD) (w : Fin cfg0.W) : Buf (Elt F) ((cfg0.win w).arr.view.loc (c : Thread nD τ)) := (dats m ρ 0 c).arrAt w cfg0.N

/-- Every array is what the pipeline's data say. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with every semaphore at zero the program on four devices ends, with every array as the pipeline's data
    say and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input arrays are as they were, -/
theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

/-- At any float values the program ends with both inputs as they were and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono
    (fun _ h => ⟨fun c => ⟨(h.1 c (0 : Fin 3)).trans (finalA_x m ρ c), (h.1 c (1 : Fin 3)).trans (finalA_w m ρ c)⟩, h.2⟩)
    (run_main m ρ)

end Cert.RingProof

end
-- ==== Proof.Value.lean ====
/-
# The value

Over exact arithmetic: when device `c` holds column block `c` of `x` and row block `c` of `w`, the sum of the four
devices' products that the ring collects on device `c` is row block `c` of the whole product `x · w`.
-/
module

public import proofs.«01_k».proof.Proof.Launch
public import proofs.«01_k».proof.Proof.Gen.ReferenceIdeal
public import Idealize.ShloMosaic.Lib.MatmulPlain
public import Idealize.ShloMosaic.Lib.StackMember
public import Idealize.ShloMosaic.Lib.Layout

@[expose] public section

noncomputable section

namespace Cert.RingProof

open Cert.KernelIdeal Cert.KernelIdeal.Gen
open Idealize.ShloMosaic
open Idealize.ShloMosaic.TcCoe
open Idealize.ShloMosaic.ValueIdx
open scoped BigOperators

/-! ## Arrays read at natural coordinates -/

/-- A 2048 × 2048 array at row `a`, column `b`. -/
def entry (f : (⟨2, ![2048, 2048]⟩ : Shape).Idx → EReal) (a b : ℕ) : EReal := f (ix2 (Fin.ofNat 2048 a) (Fin.ofNat 2048 b))

/-- An array at an index is its entry at the index's coordinates. -/
theorem eq_entry (f : (⟨2, ![2048, 2048]⟩ : Shape).Idx → EReal) (i : (⟨2, ![2048, 2048]⟩ : Shape).Idx) {a b : ℕ}
    (h0 : (i 0).val = a) (h1 : (i 1).val = b) : f i = entry f a b := by
  subst h0 h1
  refine congrArg f (funext fun x => Fin.ext ?_)
  match x with
  | ⟨0, _⟩ => exact (Nat.mod_eq_of_lt (i 0).isLt).symm
  | ⟨1, _⟩ => exact (Nat.mod_eq_of_lt (i 1).isLt).symm

/-- The part of entry `(a, b)` of the product `x · w` that block `d` of the contracted axis contributes. -/
def blockSum (x w : (⟨2, ![2048, 2048]⟩ : Shape).Idx → EReal) (a b : ℕ) (d : Fin 4) : EReal :=
  ∑ t : Fin 512, entry x a (512 * d.val + t.val) * entry w (512 * d.val + t.val) b

/-- A sum over the whole contracted axis is the sum of its blocks' sums. -/
theorem sum_blocks (f : ℕ → EReal) : ∑ k : Fin 2048, f k.val = ∑ d : Fin 4, ∑ t : Fin 512, f (512 * d.val + t.val) := by
  rw [← Fintype.sum_prod_type' fun (d : Fin 4) (t : Fin 512) => f (512 * d.val + t.val)]
  refine (Equiv.sum_comp (finProdFinEquiv (m := 4) (n := 512)) fun k => f k.val).symm.trans (Finset.sum_congr rfl fun p _ => ?_)
  exact congrArg f (Nat.add_comm _ _)

/-- The reference's product, entry by entry. -/
theorem whole_product (x w : (⟨2, ![2048, 2048]⟩ : Shape).Idx → EReal) (i : (⟨2, ![2048, 2048]⟩ : Shape).Idx) :
    Host.dotGeneral (F := Ideal) (φ₁ := .f32) (φ₂ := .f32) Cert.ReferenceIdeal.dot_S2048x2048_S2048x2048_S2048x2048_1_0_0_1_n_n none x w i
      = ∑ d : Fin 4, blockSum x w (i 0).val (i 1).val d := by
  unfold blockSum
  rw [← sum_blocks fun k => entry x (i 0).val k * entry w k (i 1).val]
  simp only [Host.dotGeneral]
  refine (Ideal.dotGeneral_apply _ _ _ _ _ _).trans ?_
  refine (Equiv.sum_comp (DotDims.plainContr 2048 2048 2048).symm _).symm.trans ?_
  have hk := contrEquiv1_symm_val _ 2048 (DotDims.plain_contr_rank 2048 2048 2048) (DotDims.plain_contr_size 2048 2048 2048)
  exact Finset.sum_congr rfl fun k _ => congrArg₂ (· * ·) (eq_entry x _ rfl (hk k)) (eq_entry w _ (hk k) rfl)

/-! ## A device's product -/

/-- A product of a row block and a half of `w`, entry by entry. -/
theorem prod_apply (xs : Vec Ideal S128x512 .f32) (ws : Vec Ideal S512x1024 .f32) (p : Fin 128) (q : Fin 1024) :
    prod (F := Ideal) xs ws (ix2 p q) = ∑ t : Fin 512, (xs (ix2 p t) : EReal) * (ws (ix2 t q) : EReal) := by
  unfold prod
  rw [shapeCast_self, shapeCast_self]
  simp only [matmul]
  refine (Ideal.matmul_plain_apply (M := 128) (K := 512) (N := 1024) (φ₁ := .f32) (φ₂ := .f32) none xs ws _ p q).trans ?_
  show Ideal.ofBits .f32 0x00000000#32 + _ = _
  rw [Ideal.ofBits_zero_f32, zero_add]

variable (m : (ℓ : Loc nD τ sig) → Buf (Elt Ideal) ℓ) (ρ : Dev nD → PrngReg)
variable (x w : (⟨2, ![2048, 2048]⟩ : Shape).Idx → EReal)

/-- The staged block of `x` is the array's block. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  unfold xstg s₀
  exact Memref.read_access_unit_zero (Elt Ideal) main_arg0 hz (fun a => by fin_cases a <;> decide) _
/-- And so is that of `w`. -/
theorem wstg_eq (c : Dev nD) : wstg m ρ c = m ((c : Thread nD τ).loc main_arg1) := by
  have hz : (fun a => (win0_1.index (0 : Fin 1)) a * main_arg1.ty.shape.size a) = fun _ => 0 :=
    funext fun a => by fin_cases a <;> decide
  unfold wstg s₀
  exact Memref.read_access_unit_zero (Elt Ideal) main_arg1 hz (fun a => by fin_cases a <;> decide) _

/-- Every device holds its column block of `x` and its row block of `w`. -/
def Holds : Prop := ∀ c : Dev nD,
  m ((c : Thread nD τ).loc main_arg0) = Layout.block ⟨2, ![2048, 512]⟩ ⟨2, ![2048, 2048]⟩ 1 4 c x
    ∧ m ((c : Thread nD τ).loc main_arg1) = Layout.block ⟨2, ![512, 2048]⟩ ⟨2, ![2048, 2048]⟩ 0 4 c w

variable {m x w}

/-- A device's own product at hop `k` of a lane: its block's contribution to the rows of its chunk. -/
theorem own_apply (hh : Holds m x w) (c : Dev nD) (ch : Bool) (k r : Fin 4) (p : Fin 128) (q : Fin 1024) :
    (own m ρ c ch k r (ix2 p q) : EReal) = blockSum x w (512 * chunk c ch k + 128 * r.val + p.val) (half ch + q.val) c := by
  unfold own blockSum
  rw [prod_apply, xstg_eq, wstg_eq, (hh c).1, (hh c).2]
  refine Finset.sum_congr rfl fun t _ => congrArg₂ (· * ·) (eq_entry x _ ?_ ?_) (eq_entry w _ ?_ ?_)
  · show xoff c ch k r 0 + 1 * p.val = _
    rw [xoff_eq, Nat.one_mul]; rfl
  · show c.val * 512 + (xoff c ch k r 1 + 1 * t.val) = _
    rw [xoff_eq, Nat.one_mul, Nat.mul_comm]
    show _ + (0 + _) = _
    rw [Nat.zero_add]
  · show c.val * 512 + (0 + 1 * t.val) = _
    omega
  · show half ch + 1 * q.val = _
    rw [Nat.one_mul]

/-! ## The ring's sum -/

/-- What arrives at a device over three hops was for its own rows all along. -/
theorem chunk_along (c : Dev nD) (ch : Bool) :
    chunk c ch 3 = c.val ∧ chunk (src c ch) ch 2 = c.val ∧ chunk (src (src c ch) ch) ch 1 = c.val
      ∧ chunk (src (src (src c ch) ch) ch) ch 0 = c.val := by revert c ch; decide

/-- A device and its three sources are all four devices. -/
theorem sum_around (f : Dev nD → EReal) (c : Dev nD) (ch : Bool) :
    f (src (src (src c ch) ch) ch) + f (src (src c ch) ch) + f (src c ch) + f c = ∑ d : Fin 4, f d := by
  have hs : (Finset.univ : Finset (Fin 4)) = {src (src (src c ch) ch) ch, src (src c ch) ch, src c ch, c} := by revert c ch; decide
  have h1 : src (src (src c ch) ch) ch ∉ ({src (src c ch) ch, src c ch, c} : Finset (Fin 4)) := by revert c ch; decide
  have h2 : src (src c ch) ch ∉ ({src c ch, c} : Finset (Fin 4)) := by revert c ch; decide
  have h3 : src c ch ∉ ({c} : Finset (Fin 4)) := by revert c ch; decide
  rw [hs, Finset.sum_insert h1, Finset.sum_insert h2, Finset.sum_insert h3, Finset.sum_singleton, add_assoc, add_assoc]

/-- The sum after three hops is the whole sum at the device's own rows. -/
theorem part_apply (hh : Holds m x w) (c : Dev nD) (ch : Bool) (r : Fin 4) (p : Fin 128) (q : Fin 1024) :
    (part m ρ ch r 3 c (ix2 p q) : EReal) = ∑ d : Fin 4, blockSum x w (512 * c.val + 128 * r.val + p.val) (half ch + q.val) d := by
  obtain ⟨h3, h2, h1, h0⟩ := chunk_along c ch
  rw [← sum_around (blockSum x w (512 * c.val + 128 * r.val + p.val) (half ch + q.val)) c ch]
  show (((own m ρ (src (src (src c ch) ch) ch) ch 0 r (ix2 p q) : EReal) + own m ρ (src (src c ch) ch) ch 1 r (ix2 p q))
    + own m ρ (src c ch) ch 2 r (ix2 p q)) + own m ρ c ch 3 r (ix2 p q) = _
  rw [own_apply ρ hh, own_apply ρ hh, own_apply ρ hh, own_apply ρ hh, h0, h1, h2, h3]

/-- The output block of a device is its row block of the whole product. -/
theorem outAt_eq (hh : Holds m x w) (c : Dev nD) :
    outAt m ρ c = Layout.block ⟨2, ![512, 2048]⟩ ⟨2, ![2048, 2048]⟩ 0 4 c
      (Host.dotGeneral (F := Ideal) (φ₁ := .f32) (φ₂ := .f32) Cert.ReferenceIdeal.dot_S2048x2048_S2048x2048_S2048x2048_1_0_0_1_n_n none x w) := by
  funext i
  rw [Layout.block_apply, whole_product]
  have hr : (i 0).val < 512 := (i 0).isLt
  have hc : (i 1).val < 2048 := (i 1).isLt
  have hp (p : Fin 128) (q : Fin 1024) : (Shape.pair p q : S128x1024.Idx) = ix2 p q := by
    funext a
    match a with
    | ⟨0, _⟩ => rfl
    | ⟨1, _⟩ => rfl
  unfold outAt
  refine (congrArg (part m ρ (decide (1024 ≤ (i 1).val)) (Fin.ofNat 4 ((i 0).val / 128)) 3 c)
    (hp ⟨(i 0).val % 128, Nat.mod_lt _ (by decide)⟩ ⟨(i 1).val % 1024, Nat.mod_lt _ (by decide)⟩)).trans ?_
  refine (part_apply ρ hh c _ _ _ _).trans (Finset.sum_congr rfl fun d _ => congrArg₂ (fun a b => blockSum x w a b d) ?_ ?_)
  · show 512 * c.val + 128 * ((i 0).val / 128 % 4) + (i 0).val % 128 = c.val * 512 + (i 0).val
    omega
  · show half (decide (1024 ≤ (i 1).val)) + (i 1).val % 1024 = (i 1).val
    by_cases h : 1024 ≤ (i 1).val
    · rw [decide_eq_true h]; show 1024 + _ = _; omega
    · rw [decide_eq_false h]; show 0 + _ = _; omega

variable (m)

/-- The result array after the run is the output block. -/
theorem finalA_o (c : Dev nD) : finalA m ρ c (2 : Fin 3) = outAt m ρ c := by
  have hz : (fun a => (win0_2.index (0 : Fin 1)) a * main_v1.ty.shape.size a) = fun _ => 0 :=
    funext fun a => by fin_cases a <;> decide
  have ho : (win0_2.blk (0 : Fin 1)).view.read (Elt Ideal) (finalA m ρ c (2 : Fin 3)) = outAt m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (Memref.read_access_unit_zero (Elt Ideal) main_v1 hz (fun a => by fin_cases a <;> decide) _).symm.trans ho

end Cert.RingProof

end
-- ==== Proof.lean ====
/-
# The certificate

The five claims about the ring reduce-scatter and its reference: both kernels' frames from the one run of Launch.lean,
the reference's frame from its generated run, and the value from Value.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel at machine floats and the kernel over exact arithmetic have one text: their bodies are the same program, -/
theorem defs₀_eq : Cert.Kernel.defs₀ (F := Bits) = Cert.KernelIdeal.defs₀ (F := Bits) :=
  congrArg Defs.onTc (funext fun ℓ => funext fun x => match ℓ, x with
    | 0, _ => rfl
    | ⟨_ + 1, h⟩, _ => absurd h (Nat.not_lt.2 (Nat.le_add_left _ _)))
/-- and so are their tables of programs. -/
theorem defs_eq : Cert.Kernel.defs (F := Bits) = Cert.KernelIdeal.defs (F := Bits) :=
  congrArg (Pipeline.defs (Cert.KernelIdeal.pcfgs (F := Bits))) defs₀_eq

/-- The kernel at machine floats ends with its arguments unchanged and every semaphore at zero: its run is the one proved
    at any float values. -/
theorem frame_kernel : Cert.quiescent_Kernel := fun m ρ _ => by
  rw [defs_eq]
  exact RingProof.run_frame (F := Bits) m ρ

/-- So does the kernel over exact arithmetic. -/
theorem frame_kernelIdeal : Cert.quiescent_KernelIdeal := fun m ρ _ => RingProof.run_frame (F := Ideal) m ρ

/-- The reference ends with its arguments unchanged; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- Over exact arithmetic every device's output is its row block of the reference's product. -/
theorem value : Cert.algebraic_KernelIdeal_ReferenceIdeal := fun m ρ m' ρ' _ hh => by
  refine ⟨_, ?_, (θ_run Cert.ReferenceIdeal.defs _ _).mono (fun _ h => h 0) (Cert.ReferenceIdeal.Value.run (F := Ideal) m' ρ')⟩
  exact (θ_run Cert.KernelIdeal.defs _ _).mono
    (fun _ h c => ⟨((h.1 c (2 : Fin 3)).trans (RingProof.finalA_o m ρ c)).trans (RingProof.outAt_eq ρ hh c),
      (h.1 c (0 : Fin 3)).trans (RingProof.finalA_x m ρ c), (h.1 c (1 : Fin 3)).trans (RingProof.finalA_w m ρ c)⟩)
    (RingProof.run_main (F := Ideal) m ρ)

/-- All five claims. -/
theorem claim : Cert.Claim := ⟨Cert.Kernel.Gen.facts, Cert.KernelIdeal.Gen.facts, Cert.ReferenceIdeal.Gen.facts,
  frame_kernel, frame_kernelIdeal, frame_reference, trivial, value⟩

end Cert.Proof

end
